-- ==== Defs.lean ====
def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradIdeal_tame [hPre_tame : Cert.Pre_tame.Facts] (m : (ℓ : Loc Cert.WgradIdeal.nD Cert.WgradIdeal.τ Cert.WgradIdeal.sig) → Buf (Elt Ideal) ℓ) : Prop :=
  ∀ c : Dev Cert.WgradIdeal.nD,
    (Cert.Pre_tame.fn (F := Ideal) (m ((c.tc : Thread Cert.WgradIdeal.nD Cert.WgradIdeal.τ).loc Cert.WgradIdeal.main_arg0)) (m ((c.tc : Thread Cert.WgradIdeal.nD Cert.WgradIdeal.τ).loc Cert.WgradIdeal.main_arg1)) (m ((c.tc : Thread Cert.WgradIdeal.nD Cert.WgradIdeal.τ).loc Cert.WgradIdeal.main_arg2)) (m ((c.tc : Thread Cert.WgradIdeal.nD Cert.WgradIdeal.τ).loc Cert.WgradIdeal.main_arg3)) (m ((c.tc : Thread Cert.WgradIdeal.nD Cert.WgradIdeal.τ).loc Cert.WgradIdeal.main_arg4)) (m ((c.tc : Thread Cert.WgradIdeal.nD Cert.WgradIdeal.τ).loc Cert.WgradIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1)
      ∧ r.2.mem ((c.tc : Thread Cert.Wgrad.nD Cert.Wgrad.τ).loc Cert.Wgrad.main_arg2) = m ((c.tc : Thread Cert.Wgrad.nD Cert.Wgrad.τ).loc Cert.Wgrad.main_arg2)
      ∧ r.2.mem ((c.tc : Thread Cert.Wgrad.nD Cert.Wgrad.τ).loc Cert.Wgrad.main_arg3) = m ((c.tc : Thread Cert.Wgrad.nD Cert.Wgrad.τ).loc Cert.Wgrad.main_arg3)
      ∧ r.2.mem ((c.tc : Thread Cert.Wgrad.nD Cert.Wgrad.τ).loc Cert.Wgrad.main_arg4) = m ((c.tc : Thread Cert.Wgrad.nD Cert.Wgrad.τ).loc Cert.Wgrad.main_arg4)
      ∧ r.2.mem ((c.tc : Thread Cert.Wgrad.nD Cert.Wgrad.τ).loc Cert.Wgrad.main_arg5) = m ((c.tc : Thread Cert.Wgrad.nD Cert.Wgrad.τ).loc Cert.Wgrad.main_arg5))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
      ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3)
      ∧ r.2.mem ((c.tc : Thread Cert.WgradIdeal.nD Cert.WgradIdeal.τ).loc Cert.WgradIdeal.main_arg4) = m ((c.tc : Thread Cert.WgradIdeal.nD Cert.WgradIdeal.τ).loc Cert.WgradIdeal.main_arg4)
      ∧ r.2.mem ((c.tc : Thread Cert.WgradIdeal.nD Cert.WgradIdeal.τ).loc Cert.WgradIdeal.main_arg5) = m ((c.tc : Thread Cert.WgradIdeal.nD Cert.WgradIdeal.τ).loc Cert.WgradIdeal.main_arg5))
      ∧ r.2.sem = fun _ => 0)

def quiescent_WgradIdeal_pre_tame [hWgradIdeal : Cert.WgradIdeal.Facts] [hPre_tame : Cert.Pre_tame.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal_tame m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
      ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3)
      ∧ r.2.mem ((c.tc : Thread Cert.WgradIdeal.nD Cert.WgradIdeal.τ).loc Cert.WgradIdeal.main_arg4) = m ((c.tc : Thread Cert.WgradIdeal.nD Cert.WgradIdeal.τ).loc Cert.WgradIdeal.main_arg4)
      ∧ r.2.mem ((c.tc : Thread Cert.WgradIdeal.nD Cert.WgradIdeal.τ).loc Cert.WgradIdeal.main_arg5) = m ((c.tc : Thread Cert.WgradIdeal.nD Cert.WgradIdeal.τ).loc Cert.WgradIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Wgrad_WgradIdeal : Prop :=
  IdealRules.bf16_pair.Statement Cert.WgradIdeal.S16x2x128 Cert.WgradIdeal.S16x1x128
  ∧ IdealRules.bf16_pair.Statement Cert.WgradIdeal.S32x128 Cert.WgradIdeal.S16x128

def algebraic_WgradIdeal_ReferenceIdeal_pre_tame [hWgradIdeal : Cert.WgradIdeal.Facts] [hReferenceIdeal : Cert.ReferenceIdeal.Facts] [hPre_tame : Cert.Pre_tame.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_WgradIdeal_tame m →
    (∀ c : Dev Cert.WgradIdeal.nD,
      m' ((c.tc : Thread Cert.ReferenceIdeal.nD Cert.ReferenceIdeal.τ).loc Cert.ReferenceIdeal.main_arg0) = m ((c.tc : Thread Cert.WgradIdeal.nD Cert.WgradIdeal.τ).loc Cert.WgradIdeal.main_arg0)
      ∧ m' ((c.tc : Thread Cert.ReferenceIdeal.nD Cert.ReferenceIdeal.τ).loc Cert.ReferenceIdeal.main_arg1) = m ((c.tc : Thread Cert.WgradIdeal.nD Cert.WgradIdeal.τ).loc Cert.WgradIdeal.main_arg1)
      ∧ m' ((c.tc : Thread Cert.ReferenceIdeal.nD Cert.ReferenceIdeal.τ).loc Cert.ReferenceIdeal.main_arg2) = m ((c.tc : Thread Cert.WgradIdeal.nD Cert.WgradIdeal.τ).loc Cert.WgradIdeal.main_arg2)
      ∧ m' ((c.tc : Thread Cert.ReferenceIdeal.nD Cert.ReferenceIdeal.τ).loc Cert.ReferenceIdeal.main_arg3) = m ((c.tc : Thread Cert.WgradIdeal.nD Cert.WgradIdeal.τ).loc Cert.WgradIdeal.main_arg3)
      ∧ m' ((c.tc : Thread Cert.ReferenceIdeal.nD Cert.ReferenceIdeal.τ).loc Cert.ReferenceIdeal.main_arg4) = m ((c.tc : Thread Cert.WgradIdeal.nD Cert.WgradIdeal.τ).loc Cert.WgradIdeal.main_arg4)
      ∧ m' ((c.tc : Thread Cert.ReferenceIdeal.nD Cert.ReferenceIdeal.τ).loc Cert.ReferenceIdeal.main_arg5) = m ((c.tc : Thread Cert.WgradIdeal.nD Cert.WgradIdeal.τ).loc Cert.WgradIdeal.main_arg5)) →
    ∃ (v0 : (c : Dev Cert.WgradIdeal.nD) → Buf (Elt Ideal) ((c.tc : Thread Cert.WgradIdeal.nD Cert.WgradIdeal.τ).loc Cert.WgradIdeal.main_v0_0)) (v1 : (c : Dev Cert.WgradIdeal.nD) → Buf (Elt Ideal) ((c.tc : Thread Cert.WgradIdeal.nD Cert.WgradIdeal.τ).loc Cert.WgradIdeal.main_v0_2)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v0_0) = v0 c
          ∧ r.2.mem ((c.tc : Thread Cert.WgradIdeal.nD Cert.WgradIdeal.τ).loc Cert.WgradIdeal.main_v0_2) = v1 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
          ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
          ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3)
          ∧ r.2.mem ((c.tc : Thread Cert.WgradIdeal.nD Cert.WgradIdeal.τ).loc Cert.WgradIdeal.main_arg4) = m ((c.tc : Thread Cert.WgradIdeal.nD Cert.WgradIdeal.τ).loc Cert.WgradIdeal.main_arg4)
          ∧ r.2.mem ((c.tc : Thread Cert.WgradIdeal.nD Cert.WgradIdeal.τ).loc Cert.WgradIdeal.main_arg5) = m ((c.tc : Thread Cert.WgradIdeal.nD Cert.WgradIdeal.τ).loc Cert.WgradIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26_0) = v0 c
          ∧ r.2.mem ((c.tc : Thread Cert.ReferenceIdeal.nD Cert.ReferenceIdeal.τ).loc Cert.ReferenceIdeal.main_v26_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hWgrad : Cert.Wgrad.Facts) (hWgradIdeal : Cert.WgradIdeal.Facts) (hReferenceIdeal : Cert.ReferenceIdeal.Facts) (hPre_tame : Cert.Pre_tame.Facts),
    quiescent_Wgrad (hWgrad := hWgrad)
    ∧ quiescent_WgradIdeal (hWgradIdeal := hWgradIdeal)
    ∧ quiescent_WgradIdeal_pre_tame (hWgradIdeal := hWgradIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Wgrad_WgradIdeal
    ∧ algebraic_WgradIdeal_ReferenceIdeal_pre_tame (hWgradIdeal := hWgradIdeal) (hReferenceIdeal := hReferenceIdeal) (hPre_tame := hPre_tame)
-- ==== Pre_tame.lean ====
abbrev S16 : Shape := ⟨1, ![16]⟩
abbrev S1 : Shape := ⟨1, ![1]⟩
abbrev S7168x2048 : Shape := ⟨2, ![7168, 2048]⟩
abbrev S2048x18944 : Shape := ⟨2, ![2048, 18944]⟩
abbrev S128x18944 : Shape := ⟨2, ![128, 18944]⟩
abbrev S2048x1184x16 : Shape := ⟨3, ![2048, 1184, 16]⟩
abbrev S_ : Shape := ⟨0, ![]⟩
abbrev S1x1x16 : Shape := ⟨3, ![1, 1, 16]⟩

class Facts : Prop where
  bitsLt_bf16_f32 : FTy.bits .bf16 < FTy.bits .f32
  shapeCasts_S2048x18944_S2048x1184x16 : S2048x18944.ShapeCasts S2048x1184x16
  bcast_S_S2048x1184x16 : S_.BroadcastsInDim S2048x1184x16 (![] : Fin 0 → Fin S2048x1184x16.rank)
  bcast_S_S16 : S_.BroadcastsInDim S16 (![] : Fin 0 → Fin S16.rank)
  bcast_S16_S1x1x16_2 : S16.BroadcastsInDim S1x1x16 (![2] : Fin 1 → Fin S1x1x16.rank)
  bcast_S1x1x16_S2048x1184x16_0_1_2 : S1x1x16.BroadcastsInDim S2048x1184x16 (![0, 1, 2] : Fin 3 → Fin S2048x1184x16.rank)

variable [Facts]

def fn {F : FTy → Type} [FloatOps F] (main_arg0 : FVec F S16 .f32) (main_arg1 : FVec F S1 .f32) (main_arg2 : FVec F S1 .f32) (main_arg3 : FVec F S7168x2048 .bf16) (main_arg4 : FVec F S2048x18944 .bf16) (main_arg5 : FVec F S128x18944 .f32) : IVec S2048x1184x16 1 :=
  let main_v0 : FVec F S2048x18944 .f32 := (extf .f32 · bitsLt_bf16_f32) main_arg4
  let main_v1 : FVec F S2048x18944 .f32 := Host.absf main_v0
  let main_v2 : FVec F S2048x1184x16 .f32 := shapeCast S2048x1184x16 main_v1 shapeCasts_S2048x18944_S2048x1184x16
  let main_cst : FVec F S_ .f32 := constant S_ .f32 0x7F800000#32
  let main_v3 : FVec F S2048x1184x16 .f32 := broadcastInDim S2048x1184x16 ![] bcast_S_S2048x1184x16 main_cst
  let main_v4 : IVec S2048x1184x16 1 := cmpf .olt main_v2 main_v3
  let main_v5 : FVec F S16 .f32 := Host.absf main_arg0
  let main_cst_0 : FVec F S_ .f32 := constant S_ .f32 0x7F800000#32
  let main_v6 : FVec F S16 .f32 := broadcastInDim S16 ![] bcast_S_S16 main_cst_0
  let main_v7 : IVec S16 1 := cmpf .olt main_v5 main_v6
  let main_v8 : IVec S1x1x16 1 := broadcastInDim S1x1x16 ![2] bcast_S16_S1x1x16_2 main_v7
  let main_v9 : IVec S2048x1184x16 1 := broadcastInDim S2048x1184x16 ![0, 1, 2] bcast_S1x1x16_S2048x1184x16_0_1_2 main_v8
  let main_v10 : IVec S2048x1184x16 1 := andi main_v4 main_v9
  main_v10
-- ==== Wgrad.lean ====
abbrev S16 : Shape := ⟨1, ![16]⟩
abbrev S1 : Shape := ⟨1, ![1]⟩
abbrev S7168x2048 : Shape := ⟨2, ![7168, 2048]⟩
abbrev S2048x18944 : Shape := ⟨2, ![2048, 18944]⟩
abbrev S128x18944 : Shape := ⟨2, ![128, 18944]⟩
abbrev S7168x18944 : Shape := ⟨2, ![7168, 18944]⟩
abbrev S1024x18944 : Shape := ⟨2, ![1024, 18944]⟩
abbrev S512x128 : Shape := ⟨2, ![512, 128]⟩
abbrev S32x512 : Shape := ⟨2, ![32, 512]⟩
abbrev S1792x512 : Shape := ⟨2, ![1792, 512]⟩
abbrev S256x512 : Shape := ⟨2, ![256, 512]⟩
abbrev S2x2048x512 : Shape := ⟨3, ![2, 2048, 512]⟩
abbrev S4x64x128 : Shape := ⟨3, ![4, 64, 128]⟩
abbrev S256x128 : Shape := ⟨2, ![256, 128]⟩
abbrev S16x128 : Shape := ⟨2, ![16, 128]⟩
abbrev S256x2x128 : Shape := ⟨3, ![256, 2, 128]⟩
abbrev S16x2x128 : Shape := ⟨3, ![16, 2, 128]⟩
abbrev S16x1x128 : Shape := ⟨3, ![16, 1, 128]⟩
abbrev S1x16x128 : Shape := ⟨3, ![1, 16, 128]⟩
abbrev S1x32x128 : Shape := ⟨3, ![1, 32, 128]⟩
abbrev S32x128 : Shape := ⟨2, ![32, 128]⟩
abbrev S128x128 : Shape := ⟨2, ![128, 128]⟩
abbrev S1792x2048 : Shape := ⟨2, ![1792, 2048]⟩
abbrev S1x2048x512 : Shape := ⟨3, ![1, 2048, 512]⟩
abbrev S2048x512 : Shape := ⟨2, ![2048, 512]⟩

abbrev nBuf : Space → Nat
  | .hbm => 9
  | .vmem => 19
  | .smem => 3
  | _ => 0

abbrev bufTy : (tb : Table) → Fin (tcTables nBuf tb) → BufTy
  | .hbm, ⟨0, _⟩ => ⟨S16, .f32⟩
  | .hbm, ⟨1, _⟩ => ⟨S1, .f32⟩
  | .hbm, ⟨2, _⟩ => ⟨S1, .f32⟩
  | .hbm, ⟨3, _⟩ => ⟨S7168x2048, .bf16⟩
  | .hbm, ⟨4, _⟩ => ⟨S2048x18944, .bf16⟩
  | .hbm, ⟨5, _⟩ => ⟨S128x18944, .f32⟩
  | .hbm, ⟨6, _⟩ => ⟨S7168x18944, .f32⟩
  | .hbm, ⟨7, _⟩ => ⟨S1024x18944, .i8⟩
  | .hbm, ⟨8, _⟩ => ⟨S128x18944, .fp8e4m3⟩
  | .local _ .vmem, ⟨0, _⟩ => ⟨S7168x2048, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S32x512, .f32⟩
  | .local _ .vmem, ⟨10, _⟩ => ⟨S32x512, .f32⟩
  | .local _ .vmem, ⟨11, _⟩ => ⟨S1792x512, .f32⟩
  | .local _ .vmem, ⟨12, _⟩ => ⟨S1792x512, .f32⟩
  | .local _ .vmem, ⟨13, _⟩ => ⟨S256x512, .i8⟩
  | .local _ .vmem, ⟨14, _⟩ => ⟨S256x512, .i8⟩
  | .local _ .vmem, ⟨15, _⟩ => ⟨S32x512, .fp8e4m3⟩
  | .local _ .vmem, ⟨16, _⟩ => ⟨S32x512, .fp8e4m3⟩
  | .local _ .vmem, ⟨17, _⟩ => ⟨S2x2048x512, .bf16⟩
  | .local _ .vmem, ⟨18, _⟩ => ⟨S4x64x128, .i32⟩
  | .local _ .smem, ⟨0, _⟩ => ⟨S16, .f32⟩
  | .local _ .smem, ⟨1, _⟩ => ⟨S1, .f32⟩
  | .local _ .smem, ⟨2, _⟩ => ⟨S1, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg3_0 : Ref sig .tc := ⟨.vmem, 0, rfl⟩
abbrev cc0_stg4_0 : Ref sig .tc := ⟨.vmem, 1, rfl⟩
abbrev cc0_stg4_1 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [BitOps F]

abbrev grid0 : Pipeline.Grid := ⟨2, ![38, 4], ![false, false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_off1 (i : grid0.Coords) (c0_i32_383 : BitVec 32) (c0_i32_384 : BitVec 32) : Fin 3 → Nat :=
  let arg0 : BitVec 32 := BitVec.ofNat 32 (i 0).val
  let c2_i32 : BitVec 32 := 2#32
  let v1 : BitVec 32 := Scalar.remsi arg0 c2_i32
  let v1081 : Index := Scalar.indexCast v1
  let arg1 : BitVec 32 := BitVec.ofNat 32 (i 1).val
  let c512_i32 : BitVec 32 := 512#32
  let v1078 : BitVec 32 := Scalar.muli arg1 c512_i32
  let v1079 : BitVec 32 := Scalar.addi v1078 c0_i32_383
  let v1080 : BitVec 32 := Scalar.addi v1079 c0_i32_384
  let v1082 : Index := Scalar.indexCast v1080
  let c0_385 : Index := 0#32
  ![v1081.toNat, v1082.toNat, 0]
def k0_off2 (i : grid0.Coords) (c0_i32_801 : BitVec 32) (c0_i32_802 : BitVec 32) : Fin 3 → Nat :=
  let arg0 : BitVec 32 := BitVec.ofNat 32 (i 0).val
  let c2_i32 : BitVec 32 := 2#32
  let v1 : BitVec 32 := Scalar.remsi arg0 c2_i32
  let v2225 : Index := Scalar.indexCast v1
  let arg1 : BitVec 32 := BitVec.ofNat 32 (i 1).val
  let c512_i32_800 : BitVec 32 := 512#32
  let v2222 : BitVec 32 := Scalar.muli arg1 c512_i32_800
  let v2223 : BitVec 32 := Scalar.addi v2222 c0_i32_801
  let v2224 : BitVec 32 := Scalar.addi v2223 c0_i32_802
  let v2226 : Index := Scalar.indexCast v2224
  let c128_803 : Index := 128#32
  ![v2225.toNat, v2226.toNat, 128]
def k0_off3 (i : grid0.Coords) (c0_i32_1233 : BitVec 32) (c0_i32_1234 : BitVec 32) : Fin 3 → Nat :=
  let arg0 : BitVec 32 := BitVec.ofNat 32 (i 0).val
  let c2_i32 : BitVec 32 := 2#32
  let v1 : BitVec 32 := Scalar.remsi arg0 c2_i32
  let v3369 : Index := Scalar.indexCast v1
  let arg1 : BitVec 32 := BitVec.ofNat 32 (i 1).val
  let c512_i32_1232 : BitVec 32 := 512#32
  let v3366 : BitVec 32 := Scalar.muli arg1 c512_i32_1232
  let v3367 : BitVec 32 := Scalar.addi v3366 c0_i32_1233
  let v3368 : BitVec 32 := Scalar.addi v3367 c0_i32_1234
  let v3370 : Index := Scalar.indexCast v3368
  let c256_1235 : Index := 256#32
  ![v3369.toNat, v3370.toNat, 256]
def k0_off4 (i : grid0.Coords) (c0_i32_1665 : BitVec 32) (c0_i32_1666 : BitVec 32) : Fin 3 → Nat :=
  let arg0 : BitVec 32 := BitVec.ofNat 32 (i 0).val
  let c2_i32 : BitVec 32 := 2#32
  let v1 : BitVec 32 := Scalar.remsi arg0 c2_i32
  let v4513 : Index := Scalar.indexCast v1
  let arg1 : BitVec 32 := BitVec.ofNat 32 (i 1).val
  let c512_i32_1664 : BitVec 32 := 512#32
  let v4510 : BitVec 32 := Scalar.muli arg1 c512_i32_1664
  let v4511 : BitVec 32 := Scalar.addi v4510 c0_i32_1665
  let v4512 : BitVec 32 := Scalar.addi v4511 c0_i32_1666
  let v4514 : Index := Scalar.indexCast v4512
  let c384_1667 : Index := 384#32
  ![v4513.toNat, v4514.toNat, 384]
def k0_cond2 (i : grid0.Coords) : BitVec 1 :=
  let arg0 : BitVec 32 := BitVec.ofNat 32 (i 0).val
  let c0_i32_17 : BitVec 32 := 0#32
  let v37 : BitVec 1 := Scalar.cmpi .sgt arg0 c0_i32_17
  let v38 : BitVec 32 := Scalar.extui v37
  let c0_i32_18 : BitVec 32 := 0#32
  let v39 : BitVec 1 := Scalar.cmpi .ne v38 c0_i32_18
  v39

def k0_off5 (i : grid0.Coords) : Fin 2 → Nat :=
  let arg1 : BitVec 32 := BitVec.ofNat 32 (i 1).val
  let c1792_i32 : BitVec 32 := 1792#32
  let v42 : BitVec 32 := Scalar.muli arg1 c1792_i32
  let v43 : Index := Scalar.indexCast v42
  let c0_20 : Index := 0#32
  ![v43.toNat, 0]
def k0_off6 (i : grid0.Coords) : Fin 3 → Nat :=
  let c1_i32 : BitVec 32 := 1#32
  let arg0 : BitVec 32 := BitVec.ofNat 32 (i 0).val
  let c2_i32 : BitVec 32 := 2#32
  let v1 : BitVec 32 := Scalar.remsi arg0 c2_i32
  let v45 : BitVec 32 := Scalar.subi c1_i32 v1
  let v46 : Index := Scalar.indexCast v45
  let c0_21 : Index := 0#32
  let c0_22 : Index := 0#32
  ![v46.toNat, 0, 0]
def k0_off7 (i : grid0.Coords) (c0_i32_390 : BitVec 32) (c0_i32_391 : BitVec 32) : Fin 3 → Nat :=
  let arg0 : BitVec 32 := BitVec.ofNat 32 (i 0).val
  let c2_i32 : BitVec 32 := 2#32
  let v1 : BitVec 32 := Scalar.remsi arg0 c2_i32
  let v1094 : Index := Scalar.indexCast v1
  let arg1 : BitVec 32 := BitVec.ofNat 32 (i 1).val
  let c512_i32 : BitVec 32 := 512#32
  let v1091 : BitVec 32 := Scalar.muli arg1 c512_i32
  let v1092 : BitVec 32 := Scalar.addi v1091 c0_i32_390
  let v1093 : BitVec 32 := Scalar.addi v1092 c0_i32_391
  let v1095 : Index := Scalar.indexCast v1093
  let c0_392 : Index := 0#32
  ![v1094.toNat, v1095.toNat, 0]
def k0_off8 (i : grid0.Coords) (c0_i32_808 : BitVec 32) (c0_i32_809 : BitVec 32) : Fin 3 → Nat :=
  let arg0 : BitVec 32 := BitVec.ofNat 32 (i 0).val
  let c2_i32 : BitVec 32 := 2#32
  let v1 : BitVec 32 := Scalar.remsi arg0 c2_i32
  let v2238 : Index := Scalar.indexCast v1
  let arg1 : BitVec 32 := BitVec.ofNat 32 (i 1).val
  let c512_i32_807 : BitVec 32 := 512#32
  let v2235 : BitVec 32 := Scalar.muli arg1 c512_i32_807
  let v2236 : BitVec 32 := Scalar.addi v2235 c0_i32_808
  let v2237 : BitVec 32 := Scalar.addi v2236 c0_i32_809
  let v2239 : Index := Scalar.indexCast v2237
  let c128_810 : Index := 128#32
  ![v2238.toNat, v2239.toNat, 128]
def k0_off9 (i : grid0.Coords) (c0_i32_1240 : BitVec 32) (c0_i32_1241 : BitVec 32) : Fin 3 → Nat :=
  let arg0 : BitVec 32 := BitVec.ofNat 32 (i 0).val
  let c2_i32 : BitVec 32 := 2#32
  let v1 : BitVec 32 := Scalar.remsi arg0 c2_i32
  let v3382 : Index := Scalar.indexCast v1
  let arg1 : BitVec 32 := BitVec.ofNat 32 (i 1).val
  let c512_i32_1239 : BitVec 32 := 512#32
  let v3379 : BitVec 32 := Scalar.muli arg1 c512_i32_1239
  let v3380 : BitVec 32 := Scalar.addi v3379 c0_i32_1240
  let v3381 : BitVec 32 := Scalar.addi v3380 c0_i32_1241
  let v3383 : Index := Scalar.indexCast v3381
  let c256_1242 : Index := 256#32
  ![v3382.toNat, v3383.toNat, 256]
def k0_off10 (i : grid0.Coords) (c0_i32_1672 : BitVec 32) (c0_i32_1673 : BitVec 32) : Fin 3 → Nat :=
  let arg0 : BitVec 32 := BitVec.ofNat 32 (i 0).val
  let c2_i32 : BitVec 32 := 2#32
  let v1 : BitVec 32 := Scalar.remsi arg0 c2_i32
  let v4526 : Index := Scalar.indexCast v1
  let arg1 : BitVec 32 := BitVec.ofNat 32 (i 1).val
  let c512_i32_1671 : BitVec 32 := 512#32
  let v4523 : BitVec 32 := Scalar.muli arg1 c512_i32_1671
  let v4524 : BitVec 32 := Scalar.addi v4523 c0_i32_1672
  let v4525 : BitVec 32 := Scalar.addi v4524 c0_i32_1673
  let v4527 : Index := Scalar.indexCast v4525
  let c384_1674 : Index := 384#32
  ![v4526.toNat, v4527.toNat, 384]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.minsi arg0 c36_i32
  let c4_i32 : BitVec 32 := 4#32
  let v1 : BitVec 32 := Scalar.muli v0 c4_i32
  let c0_i32 : BitVec 32 := 0#32
  let v2 : BitVec 32 := Scalar.addi v1 c0_i32
  let c0_i32_0 : BitVec 32 := 0#32
  ![arg1.toNat, v2.toNat]

def cc0_transform_5 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.minsi arg0 c36_i32
  let c4_i32 : BitVec 32 := 4#32
  let v1 : BitVec 32 := Scalar.muli v0 c4_i32
  let c1_i32 : BitVec 32 := 1#32
  let v2 : BitVec 32 := Scalar.addi v1 c1_i32
  let c0_i32 : BitVec 32 := 0#32
  ![arg1.toNat, v2.toNat]

def cc0_transform_6 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.minsi arg0 c36_i32
  let c4_i32 : BitVec 32 := 4#32
  let v1 : BitVec 32 := Scalar.muli v0 c4_i32
  let c2_i32 : BitVec 32 := 2#32
  let v2 : BitVec 32 := Scalar.addi v1 c2_i32
  let c0_i32 : BitVec 32 := 0#32
  ![arg1.toNat, v2.toNat]

def cc0_transform_7 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.minsi arg0 c36_i32
  let c4_i32 : BitVec 32 := 4#32
  let v1 : BitVec 32 := Scalar.muli v0 c4_i32
  let c3_i32 : BitVec 32 := 3#32
  let v2 : BitVec 32 := Scalar.addi v1 c3_i32
  let c0_i32 : BitVec 32 := 0#32
  ![arg1.toNat, v2.toNat]

def cc0_transform_8 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.minsi arg0 c36_i32
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_10 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.minsi arg0 c36_i32
  let c0_i32 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.minsi arg0 c36_i32
  let c0_i32 : BitVec 32 := 0#32
  ![arg1.toNat, v0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S7168x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1792x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x512 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== WgradIdeal.lean ====
variable {F : FTy → Type} [FloatOps F]
-- ==== ReferenceIdeal.lean ====
abbrev S16 : Shape := ⟨1, ![16]⟩
abbrev S1 : Shape := ⟨1, ![1]⟩
abbrev S7168x2048 : Shape := ⟨2, ![7168, 2048]⟩
abbrev S2048x18944 : Shape := ⟨2, ![2048, 18944]⟩
abbrev S128x18944 : Shape := ⟨2, ![128, 18944]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S128x16x18944 : Shape := ⟨3, ![128, 16, 18944]⟩
abbrev S128x18944x16 : Shape := ⟨3, ![128, 18944, 16]⟩
abbrev S7168x8x16x16 : Shape := ⟨4, ![7168, 8, 16, 16]⟩
abbrev S7168x18944 : Shape := ⟨2, ![7168, 18944]⟩
abbrev S1x1 : Shape := ⟨2, ![1, 1]⟩
abbrev S128x1x18944 : Shape := ⟨3, ![128, 1, 18944]⟩

abbrev nBuf : Space → Nat
  | .hbm => 41
  | .vmem => 7
  | .smem => 0
  | _ => 0

abbrev bufTy : (tb : Table) → Fin (tcTables nBuf tb) → BufTy
  | .hbm, ⟨0, _⟩ => ⟨S16, .f32⟩
  | .hbm, ⟨1, _⟩ => ⟨S1, .f32⟩
  | .hbm, ⟨2, _⟩ => ⟨S1, .f32⟩
  | .hbm, ⟨3, _⟩ => ⟨S7168x2048, .bf16⟩
  | .hbm, ⟨4, _⟩ => ⟨S2048x18944, .bf16⟩
  | .hbm, ⟨5, _⟩ => ⟨S128x18944, .f32⟩
  | .hbm, ⟨6, _⟩ => ⟨S16, .i32⟩
  | .hbm, ⟨7, _⟩ => ⟨S16x1, .i32⟩
  | .hbm, ⟨8, _⟩ => ⟨S16, .i32⟩
  | .hbm, ⟨9, _⟩ => ⟨S1x16, .i32⟩
  | .hbm, ⟨10, _⟩ => ⟨S16x16, .i32⟩
  | .hbm, ⟨11, _⟩ => ⟨S16x16, .i32⟩
  | .hbm, ⟨12, _⟩ => ⟨S16x16, .i32⟩
  | .hbm, ⟨13, _⟩ => ⟨S16x16, .i32⟩
  | .hbm, ⟨14, _⟩ => ⟨S_, .i32⟩
  | .hbm, ⟨15, _⟩ => ⟨S16x16, .i32⟩
  | .hbm, ⟨16, _⟩ => ⟨S16x16, .i32⟩
  | .hbm, ⟨17, _⟩ => ⟨S_, .i32⟩
  | .hbm, ⟨18, _⟩ => ⟨S16x16, .i32⟩
  | .hbm, ⟨19, _⟩ => ⟨S16x16, .i1⟩
  | .hbm, ⟨20, _⟩ => ⟨S_, .f32⟩
  | .hbm, ⟨21, _⟩ => ⟨S_, .f32⟩
  | .hbm, ⟨22, _⟩ => ⟨S16x16, .f32⟩
  | .hbm, ⟨23, _⟩ => ⟨S16x16, .f32⟩
  | .hbm, ⟨24, _⟩ => ⟨S16x16, .f32⟩
  | .hbm, ⟨25, _⟩ => ⟨S16x16, .f32⟩
  | .hbm, ⟨26, _⟩ => ⟨S1x16, .f32⟩
  | .hbm, ⟨27, _⟩ => ⟨S16x16, .f32⟩
  | .hbm, ⟨28, _⟩ => ⟨S16x16, .f32⟩
  | .hbm, ⟨29, _⟩ => ⟨S_, .f32⟩
  | .hbm, ⟨30, _⟩ => ⟨S16x16, .f32⟩
  | .hbm, ⟨31, _⟩ => ⟨S16x16, .f32⟩
  | .hbm, ⟨32, _⟩ => ⟨S2048x18944, .f32⟩
  | .hbm, ⟨33, _⟩ => ⟨S128x16x18944, .f32⟩
  | .hbm, ⟨34, _⟩ => ⟨S128x18944x16, .f32⟩
  | .hbm, ⟨35, _⟩ => ⟨S128x16x18944, .f32⟩
  | .hbm, ⟨36, _⟩ => ⟨S7168x8x16x16, .bf16⟩
  | .hbm, ⟨37, _⟩ => ⟨S7168x8x16x16, .bf16⟩
  | .hbm, ⟨38, _⟩ => ⟨S7168x2048, .bf16⟩
  | .hbm, ⟨39, _⟩ => ⟨S7168x18944, .f32⟩
  | .hbm, ⟨40, _⟩ => ⟨S128x18944, .fp8e4m3⟩
  | .local _ .vmem, ⟨0, _⟩ => ⟨S1, .f32⟩
  | .local _ .vmem, ⟨1, _⟩ => ⟨S1, .f32⟩
  | .local _ .vmem, ⟨2, _⟩ => ⟨S7168x2048, .bf16⟩
  | .local _ .vmem, ⟨3, _⟩ => ⟨S128x16x18944, .f32⟩
  | .local _ .vmem, ⟨4, _⟩ => ⟨S128x18944, .f32⟩
  | .local _ .vmem, ⟨5, _⟩ => ⟨S7168x18944, .f32⟩
  | .local _ .vmem, ⟨6, _⟩ => ⟨S128x18944, .fp8e4m3⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26_0 : Ref sig .tc := ⟨.hbm, 39, rfl⟩
abbrev main_v26_1 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x16x18944 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x18944 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7168x18944 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x18944 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Wgrad.Runs.lean ====
/-
What the body runs share: the frame claim read off a run, the branch conditions over the grid points, the
staging and scratch buffers.
-/
module

public import proofs.«01_k».proof.Proof.Gen.Wgrad.Frame
public import proofs.«01_k».proof.Proof.Gen.Wgrad.Skeleton

@[expose] public section

-- membership in a rectangle of production extents: the elaborator's structural look recurses once per coordinate
set_option maxRecDepth 16384

noncomputable section

namespace Cert.Wgrad.Hand

open Cert.Wgrad Cert.Wgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Wgrad`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 7 rfl).trans ((hA c 7).trans (V_main_arg4 m c)),
      (Pipeline.RDat.FramePost.arr_in h c 8 rfl).trans ((hA c 8).trans (V_main_arg5 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 4 — by arithmetic of the point. -/
theorem hcond0_0 : ∀ t : Fin cfg0.N, cond0_0 (grid0.coords t) ↔ t.val < 4 :=
  (fun t => by
    have ht : t.val < 152 := Nat.lt_of_lt_of_eq t.isLt N_0
    have e0 : (grid0.coords t 0).val = t.val / 4 % 38 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val < 4)

/-- The condition of the body's `scf.if` 1 (`k0_h2`), from the grid coordinates (the skeleton's scalar
    chain substituted). -/
abbrev cond0_1 (i : grid0.Coords) : Prop := k0_cond2 i = 1#1
/-- It holds at the points from point 4 on — decided over the grid. -/
theorem hcond0_1 : ∀ t : Fin cfg0.N, cond0_1 (grid0.coords t) ↔ 4 ≤ t.val :=
  (by decide +kernel : ∀ t : Fin grid0.N, cond0_1 (grid0.coords t) ↔ 4 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S7168x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1792x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x512 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S32x512 .fp8e4m3 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S2x2048x512 .bf16 := Memref.whole cc0_scratch0
abbrev scM0_1 : Memref sig .tc .vmem S4x64x128 .i32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Wgrad.Hand

end
-- ==== Proof.Wgrad.RunA.lean ====
/-
The run of the kernel body in case A.
-/
module

public import proofs.«01_k».proof.Proof.Wgrad.Runs

@[expose] public section

-- membership in a rectangle of production extents: the elaborator's structural look recurses once per coordinate
set_option maxRecDepth 16384

noncomputable section

namespace Cert.Wgrad.Hand

open Cert.Wgrad Cert.Wgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 6524000 in
/-- The body's triple IN CASE A (`scf.if` 0 taken, `scf.if` 1 not taken: points 0, 1, 2, 3): on whole staging memrefs — the inputs' at their contents,
    the FORGOTTEN outputs' (9, 10, 11) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .smem S16 .f32) (harg2 : arg2.IsWhole) (arg3 : Memref sig .tc .smem S1 .f32) (harg3 : arg3.IsWhole) (arg4 : Memref sig .tc .smem S1 .f32) (harg4 : arg4.IsWhole) (arg5 : Memref sig .tc .vmem S7168x2048 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S32x512 .f32) (harg10 : arg10.IsWhole) (arg11 : Memref sig .tc .vmem S1792x512 .f32) (harg11 : arg11.IsWhole) (arg12 : Memref sig .tc .vmem S256x512 .i8) (harg12 : arg12.IsWhole) (arg13 : Memref sig .tc .vmem S32x512 .fp8e4m3) (harg13 : arg13.IsWhole) (arg14 : Memref sig .tc .vmem S2x2048x512 .bf16) (harg14 : arg14.IsWhole) (arg15 : Memref sig .tc .vmem S4x64x128 .i32) (harg15 : arg15.IsWhole) (hc0 : cond0_0 i) (hc1 : ¬cond0_1 i)
    (x0 : Vec F S16 .f32) (x1 : Vec F S1 .f32) (x2 : Vec F S1 .f32) (x3 : Vec F S7168x2048 .bf16) (x4 : Vec F S512x128 .bf16) (x5 : Vec F S512x128 .bf16) (x6 : Vec F S512x128 .bf16) (x7 : Vec F S512x128 .bf16) (x8 : Vec F S32x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_wgrad i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_wgrad_eq_skeleton]; unfold cc0_wgrad_skel
    simp only [k0_part434_eq_skeleton, k0_part214_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part215_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part216_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    iexists _, _; isplitr; swap; · iexact HS1
    ipureintro; rfl

end Cert.Wgrad.Hand

end
-- ==== Proof.Wgrad.RunB.lean ====
/-
The run of the kernel body in case B.
-/
module

public import proofs.«01_k».proof.Proof.Wgrad.RunA

@[expose] public section

-- membership in a rectangle of production extents: the elaborator's structural look recurses once per coordinate
set_option maxRecDepth 16384

noncomputable section

namespace Cert.Wgrad.Hand

open Cert.Wgrad Cert.Wgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 6688000 in
/-- The body's triple IN CASE B (`scf.if` 0 not taken, `scf.if` 1 taken: points 4, 5, … 151: 148 of 152): on whole staging memrefs — the inputs' at their contents,
    the FORGOTTEN outputs' (9, 10, 11) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .smem S16 .f32) (harg2 : arg2.IsWhole) (arg3 : Memref sig .tc .smem S1 .f32) (harg3 : arg3.IsWhole) (arg4 : Memref sig .tc .smem S1 .f32) (harg4 : arg4.IsWhole) (arg5 : Memref sig .tc .vmem S7168x2048 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S32x512 .f32) (harg10 : arg10.IsWhole) (arg11 : Memref sig .tc .vmem S1792x512 .f32) (harg11 : arg11.IsWhole) (arg12 : Memref sig .tc .vmem S256x512 .i8) (harg12 : arg12.IsWhole) (arg13 : Memref sig .tc .vmem S32x512 .fp8e4m3) (harg13 : arg13.IsWhole) (arg14 : Memref sig .tc .vmem S2x2048x512 .bf16) (harg14 : arg14.IsWhole) (arg15 : Memref sig .tc .vmem S4x64x128 .i32) (harg15 : arg15.IsWhole) (hc0 : ¬cond0_0 i) (hc1 : cond0_1 i)
    (x0 : Vec F S16 .f32) (x1 : Vec F S1 .f32) (x2 : Vec F S1 .f32) (x3 : Vec F S7168x2048 .bf16) (x4 : Vec F S512x128 .bf16) (x5 : Vec F S512x128 .bf16) (x6 : Vec F S512x128 .bf16) (x7 : Vec F S512x128 .bf16) (x8 : Vec F S32x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_wgrad i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_wgrad_eq_skeleton]; unfold cc0_wgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    iexists _, _; isplitr; swap; · iexact HS1
    ipureintro; rfl

end Cert.Wgrad.Hand

end
-- ==== Proof.Wgrad.Frame.lean ====
/-
The frame of the printed program: it runs to the end, at rest, its arguments unchanged.
-/
module

public import proofs.«01_k».proof.Proof.Wgrad.RunB
public import Idealize.ShloMosaic.Lib.Claim

@[expose] public section

-- membership in a rectangle of production extents: the elaborator's structural look recurses once per coordinate
set_option maxRecDepth 16384

noncomputable section

namespace Cert.Wgrad.Hand

open Cert.Wgrad Cert.Wgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (9, 10, 11): nothing reads what the kernel leaves in them, so nothing
    of it is named (Lib/Pipeline/Dat.lean `Dat.toRForget`). -/
def forgets0 : Fin 12 → Bool := fun w => w.val == 9 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 152 := lt_of_lt_of_eq t.isLt (show cfg0.N = 152 from N_0)
  by_cases h0 : t.val < 4
  · by_cases h1 : 4 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, H9, H10, H11, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
  · by_cases h1 : 4 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, H9, H10, H11, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 9, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_Wgrad`'s statement (Defs.lean) at any `F` — Proof.lean cites it at `Bits`:
    `theorem Cert.Proof.claim : Cert.Claim := ⟨Cert.Wgrad.Hand.facts, fun m ρ _ => Cert.Wgrad.Hand.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Wgrad.Hand

end
-- ==== Proof.WgradIdeal.Runs.lean ====
/-
What the body runs share: the frame claim read off a run, the branch conditions over the grid points, the
staging and scratch buffers.
-/
module

public import proofs.«01_k».proof.Proof.Gen.WgradIdeal.Frame
public import proofs.«01_k».proof.Proof.Gen.WgradIdeal.Skeleton

@[expose] public section

-- membership in a rectangle of production extents: the elaborator's structural look recurses once per coordinate
set_option maxRecDepth 16384

noncomputable section

namespace Cert.WgradIdeal.Hand

open Cert.WgradIdeal Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_WgradIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 7 rfl).trans ((hA c 7).trans (V_main_arg4 m c)),
      (Pipeline.RDat.FramePost.arr_in h c 8 rfl).trans ((hA c 8).trans (V_main_arg5 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 4 — by arithmetic of the point. -/
theorem hcond0_0 : ∀ t : Fin cfg0.N, cond0_0 (grid0.coords t) ↔ t.val < 4 :=
  (fun t => by
    have ht : t.val < 152 := Nat.lt_of_lt_of_eq t.isLt N_0
    have e0 : (grid0.coords t 0).val = t.val / 4 % 38 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val < 4)

/-- The condition of the body's `scf.if` 1 (`k0_h2`), from the grid coordinates (the skeleton's scalar
    chain substituted). -/
abbrev cond0_1 (i : grid0.Coords) : Prop := k0_cond2 i = 1#1
/-- It holds at the points from point 4 on — decided over the grid. -/
theorem hcond0_1 : ∀ t : Fin cfg0.N, cond0_1 (grid0.coords t) ↔ 4 ≤ t.val :=
  (by decide +kernel : ∀ t : Fin grid0.N, cond0_1 (grid0.coords t) ↔ 4 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S7168x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1792x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x512 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S32x512 .fp8e4m3 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S2x2048x512 .bf16 := Memref.whole cc0_scratch0
abbrev scM0_1 : Memref sig .tc .vmem S4x64x128 .i32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.WgradIdeal.Hand

end
-- ==== Proof.WgradIdeal.Tile.lean ====
/-
  What one grid step of the weight-gradient kernel computes from a 512 × 512 block of dy, written once for every chunk,
  column tile and row: the butterfly of sixteen scaled rows, the quantiser on one 16 × 128 tile, and the list of the
  128 tiles the step stores into its scratch array.
-/
module

public import proofs.«01_k».proof.Proof.WgradIdeal.Runs

@[expose] public section

-- membership in a rectangle of production extents: the elaborator's structural look recurses once per coordinate
set_option maxRecDepth 16384

noncomputable section

namespace Cert.WgradIdeal.Hand

open Cert.WgradIdeal Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One butterfly stage of width `d`: row `i` of a pair becomes the pair's sum, row `i + d` its difference. -/
def bfly (d : Nat) (v : Nat → FVec F S16x128 .f32) (i : Nat) : FVec F S16x128 .f32 :=
  bif Nat.beq ((i / d) % 2) 0 then addf (v i) (v (i + d)) else subf (v (i - d)) (v i)

/-- The four stages: the Hadamard transform of sixteen rows. -/
def had (v : Nat → FVec F S16x128 .f32) : Nat → FVec F S16x128 .f32 := bfly 8 (bfly 4 (bfly 2 (bfly 1 v)))

/-- Row `j` of the butterfly's input: the even or odd rows of the `j / 2`-th pair load, times the sign `s j`. -/
def leaf (s : Nat → F .f32) (ld : Nat → Vec F S16x2x128 .bf16) (j : Nat) : FVec F S16x128 .f32 :=
  mulf (extf .f32 (shapeCast S16x128 (rowsOfParity (bif Nat.beq (j % 2) 0 then 0 else 1) S16x1x128 (ld (j / 2)) bitcasts_S16x2x128_w16_S16x1x128_w32) shapeCasts_S16x1x128_S16x128))
    (broadcast S16x128 (s j))

/-- The magnitude of the scaled element, capped at 6. -/
def qap (w : FVec F S16x128 .f32) : FVec F S16x128 .f32 :=
  minimumf (absf w) (broadcast S16x128 (Scalar.ofBits .f32 0x40C00000#32))

/-- Whether the magnitude is below 2. -/
def qc2 (w : FVec F S16x128 .f32) : IVec S16x128 1 :=
  cmpf .olt (qap w) (broadcast S16x128 (Scalar.ofBits .f32 0x40000000#32))

/-- Whether the magnitude is below 4. -/
def qc4 (w : FVec F S16x128 .f32) : IVec S16x128 1 :=
  cmpf .olt (qap w) (broadcast S16x128 (Scalar.ofBits .f32 0x40800000#32))

/-- The power of two of the magnitude's binade, as a 32-bit pattern: 1, 2 or 4. -/
def qexp (w : FVec F S16x128 .f32) : IVec S16x128 32 :=
  select (qc2 w) (broadcast S16x128 1065353216#32)
    (select (qc4 w) (broadcast S16x128 1073741824#32) (broadcast S16x128 1082130432#32))

/-- The offset whose addition moves the magnitude's step to the last place. -/
def qmf (w : FVec F S16x128 .f32) : FVec F S16x128 .f32 :=
  bitcastToFloat .f32 (addi (addi (qexp w) (shrsi (qexp w) (broadcast S16x128 22#32))) (broadcast S16x128 184549122#32))

/-- The quantiser's step in the magnitude's binade: 1/2, 1 or 2. -/
def qulp (w : FVec F S16x128 .f32) : FVec F S16x128 .f32 :=
  select (qc2 w) (broadcast S16x128 (Scalar.ofBits .f32 0x3F000000#32))
    (select (qc4 w) (broadcast S16x128 (Scalar.ofBits .f32 0x3F800000#32)) (broadcast S16x128 (Scalar.ofBits .f32 0x40000000#32)))

/-- The quantised magnitude. -/
def qabs (w : FVec F S16x128 .f32) : FVec F S16x128 .f32 :=
  subf (mulf (roundeven (divf (addf (qap w) (qmf w)) (qulp w))) (qulp w)) (qmf w)

/-- The quantised value times its block's scale. -/
def qval (w sbf : FVec F S16x128 .f32) : FVec F S16x128 .bf16 :=
  truncf .bf16 (mulf (select (cmpf .olt w (broadcast S16x128 (Scalar.ofBits .f32 0x00000000#32)))
    (subf (broadcast S16x128 (Scalar.ofBits .f32 0x00000000#32)) (qabs w)) (qabs w)) sbf) bitsLt_bf16_f32

/-- The block scales: maximum / 6 / global scale, clipped and cast. -/
def sb8 (ds : F .f32) (a : Vec F S32x512 .f32) : FVec F S32x512 .fp8e4m3 :=
  truncf .fp8e4m3 (minimumf (broadcast S32x512 (Scalar.ofBits .f32 0x43E00000#32)) (maximumf (broadcast S32x512 (Scalar.ofBits .f32 0x00000000#32))
    (divf (divf a (broadcast S32x512 (Scalar.ofBits .f32 0x40C00000#32))) (broadcast S32x512 ds)))) bitsLt_fp8e4m3_f32

/-- The block scales at 32 bits. -/
def sbf (ds : F .f32) (a : Vec F S32x512 .f32) : FVec F S32x512 .f32 := extf .f32 (sb8 ds a) bitsLt_fp8e4m3_f32

/-- The divisor: block scale times global scale. -/
def dvs (ds : F .f32) (a : Vec F S32x512 .f32) : FVec F S32x512 .f32 := mulf (sbf ds a) (broadcast S32x512 ds)

/-- Whether the divisor is positive. -/
def dpos (ds : F .f32) (a : Vec F S32x512 .f32) : IVec S32x512 1 :=
  cmpf .ogt (dvs ds a) (broadcast S32x512 (Scalar.ofBits .f32 0x00000000#32))

/-- The reciprocal of the divisor, 0 where the divisor is not positive. -/
def rcp (ds : F .f32) (a : Vec F S32x512 .f32) : FVec F S32x512 .f32 :=
  select (dpos ds a) (divf (broadcast S32x512 (Scalar.ofBits .f32 0x3F800000#32))
    (select (dpos ds a) (dvs ds a) (broadcast S32x512 (Scalar.ofBits .f32 0x3F800000#32))))
    (broadcast S32x512 (Scalar.ofBits .f32 0x00000000#32))

theorem slicesT : ∀ (c : Fin 2) (l : Fin 4), S32x512.Slices ![16 * c.val, 128 * l.val] S16x128 := by decide

/-- The 16 × 128 part of a scale block belonging to chunk `c`, column tile `l`. -/
def part (c : Fin 2) (l : Fin 4) (x : FVec F S32x512 .f32) : FVec F S16x128 .f32 :=
  extractStridedSlice S16x128 ![16 * c.val, 128 * l.val] x (slicesT c l)

/-- Tile (`c`, `l`, `k`): row `k` of every group of the chunk, transformed and quantised. -/
def tile (s : Nat → F .f32) (ld : Fin 2 → Fin 4 → Nat → Vec F S16x2x128 .bf16) (ds : F .f32) (a : Vec F S32x512 .f32)
    (c : Fin 2) (l : Fin 4) (k : Nat) : FVec F S16x128 .bf16 :=
  qval (mulf (had (leaf s (ld c l)) k) (part c l (rcp ds a))) (part c l (sbf ds a))

theorem inbS : ∀ (j : Fin 16), ∀ a, (![j.val] : Fin 1 → Nat) a + S1.size a ≤ S16.size a := by decide

theorem inbRaw : ∀ (c : Fin 2) (j : Fin 8), ∀ a, S16x2x128.size a = 0 ∨ (![128 * c.val + j.val, 0, 0] : Fin 3 → Nat) a + (![8, 1, 1] : Fin 3 → Nat) a * (S16x2x128.size a - 1) < S256x2x128.size a := by decide

/-- The scalar a whole one-element memref holds. -/
def scal (arg : Memref sig .tc .smem S1 .f32) (h : arg.IsWhole) (x : Vec F S1 .f32) : F .f32 :=
  View.readAt (Elt F) arg.view (Rect.unit (s := S1) ![0] S1.size inb_S1_S1_0).toLoadRect (h.unread x) (Shape.Idx.first (show 0 < S1.numel by decide))

/-- Sign `j`, as loaded and divided by 4. -/
def sgn (arg2 : Memref sig .tc .smem S16 .f32) (h : arg2.IsWhole) (x : Vec F S16 .f32) (j : Nat) : F .f32 :=
  Scalar.mulf (View.readAt (Elt F) arg2.view (Rect.unit (s := S16) ![(Fin.ofNat 16 j).val] S1.size (inbS (Fin.ofNat 16 j))).toLoadRect (h.unread x) (Shape.Idx.first (show 0 < S1.numel by decide)))
    (Scalar.ofBits .f32 0x3E800000#32)

/-- Pair load `j` of chunk `c` of a 512 × 128 block: rows 256 c + 16 g + 2 j and the next, for each group g. -/
def raw (arg : Memref sig .tc .vmem S512x128 .bf16) (h : arg.IsWhole) (x : Vec F S512x128 .bf16) (c : Fin 2) (j : Nat) : Vec F S16x2x128 .bf16 :=
  View.readAt (Elt F) (arg.reshape S256x2x128 reshapes_S512x128_S256x2x128.1 reshapes_S512x128_S256x2x128.2 h.contiguous).view
    (⟨![128 * c.val + (Fin.ofNat 8 j).val, 0, 0], S16x2x128.size, ![8, 1, 1], inbRaw c (Fin.ofNat 8 j)⟩ : LoadRect S256x2x128) (h.unread x)

/-- The whole block of maxima, as loaded. -/
def amx (arg10 : Memref sig .tc .vmem S32x512 .f32) (h : arg10.IsWhole) (x : Vec F S32x512 .f32) : Vec F S32x512 .f32 :=
  View.readAt (Elt F) arg10.view (Rect.unit (s := S32x512) ![0, 0] S32x512.size inb_S32x512_S32x512_0_0).toLoadRect (h.unread x)

/-- The 128 tiles of a step, last stored first, each at the offsets `off`. -/
def pieces (off : Fin 4 → Fin 2 → Fin 16 → Fin 3 → Nat) (inb : ∀ l c k, ∀ a, off l c k a + S1x16x128.size a ≤ S2x2048x512.size a)
    (T : Fin 2 → Fin 4 → Nat → FVec F S16x128 .bf16) : List (View.Piece (Elt F) S2x2048x512 .bf16) :=
  ([1, 0] : List (Fin 2)).flatMap fun c => ([3, 2, 1, 0] : List (Fin 4)).flatMap fun l =>
    ([15, 14, 13, 12, 11, 10, 9, 8, 7, 6, 5, 4, 3, 2, 1, 0] : List (Fin 16)).map fun k =>
      ⟨Rect.unit (s := S2x2048x512) (off l c k) S1x16x128.size (inb l c k), shapeCast S1x16x128 (T c l k.val) shapeCasts_S16x128_S1x16x128⟩

/-- The offsets of the tiles in the first four steps, by column tile. -/
def offA (i : grid0.Coords) (l : Fin 4) (c : Fin 2) (k : Fin 16) : Fin 3 → Nat :=
  match l with
  | 0 => k0_off1 i (BitVec.ofNat 32 (256 * c.val)) (BitVec.ofNat 32 (16 * k.val))
  | 1 => k0_off2 i (BitVec.ofNat 32 (256 * c.val)) (BitVec.ofNat 32 (16 * k.val))
  | 2 => k0_off3 i (BitVec.ofNat 32 (256 * c.val)) (BitVec.ofNat 32 (16 * k.val))
  | 3 => k0_off4 i (BitVec.ofNat 32 (256 * c.val)) (BitVec.ofNat 32 (16 * k.val))

/-- The offsets of the tiles in the later steps, by column tile. -/
def offB (i : grid0.Coords) (l : Fin 4) (c : Fin 2) (k : Fin 16) : Fin 3 → Nat :=
  match l with
  | 0 => k0_off7 i (BitVec.ofNat 32 (256 * c.val)) (BitVec.ofNat 32 (16 * k.val))
  | 1 => k0_off8 i (BitVec.ofNat 32 (256 * c.val)) (BitVec.ofNat 32 (16 * k.val))
  | 2 => k0_off9 i (BitVec.ofNat 32 (256 * c.val)) (BitVec.ofNat 32 (16 * k.val))
  | 3 => k0_off10 i (BitVec.ofNat 32 (256 * c.val)) (BitVec.ofNat 32 (16 * k.val))

theorem offA_eq (i : grid0.Coords) (l : Fin 4) (c : Fin 2) (k : Fin 16) :
    offA i l c k = ![(i 0).val % 2, 512 * (i 1).val + 256 * c.val + 16 * k.val, 128 * l.val] := by
  fin_cases l
  · exact k0_off1_eq i c k
  · exact k0_off2_eq i c k
  · exact k0_off3_eq i c k
  · exact k0_off4_eq i c k

theorem offB_eq (i : grid0.Coords) (l : Fin 4) (c : Fin 2) (k : Fin 16) :
    offB i l c k = ![(i 0).val % 2, 512 * (i 1).val + 256 * c.val + 16 * k.val, 128 * l.val] := by
  fin_cases l
  · exact k0_off7_eq i c k
  · exact k0_off8_eq i c k
  · exact k0_off9_eq i c k
  · exact k0_off10_eq i c k

theorem off_inb (i : grid0.Coords) (l : Fin 4) (c : Fin 2) (k : Fin 16) :
    ∀ a, (![(i 0).val % 2, 512 * (i 1).val + 256 * c.val + 16 * k.val, 128 * l.val] : Fin 3 → Nat) a + S1x16x128.size a ≤ S2x2048x512.size a := by
  have h1 : (i 1).val < 4 := (i 1).isLt
  have h2 := c.isLt; have h3 := k.isLt; have h4 := l.isLt
  intro a
  fin_cases a <;> simp <;> omega

theorem offA_inb (i : grid0.Coords) (l : Fin 4) (c : Fin 2) (k : Fin 16) :
    ∀ a, offA i l c k a + S1x16x128.size a ≤ S2x2048x512.size a := by
  rw [offA_eq]; exact off_inb i l c k

theorem offB_inb (i : grid0.Coords) (l : Fin 4) (c : Fin 2) (k : Fin 16) :
    ∀ a, offB i l c k a + S1x16x128.size a ≤ S2x2048x512.size a := by
  rw [offB_eq]; exact off_inb i l c k

/-- The pair loads of the four column tiles. -/
def rawT (arg6 : Memref sig .tc .vmem S512x128 .bf16) (harg6 : arg6.IsWhole) (arg7 : Memref sig .tc .vmem S512x128 .bf16) (harg7 : arg7.IsWhole)
    (arg8 : Memref sig .tc .vmem S512x128 .bf16) (harg8 : arg8.IsWhole) (arg9 : Memref sig .tc .vmem S512x128 .bf16) (harg9 : arg9.IsWhole)
    (x4 x5 x6 x7 : Vec F S512x128 .bf16) (c : Fin 2) (l : Fin 4) (j : Nat) : Vec F S16x2x128 .bf16 :=
  match l with
  | 0 => raw arg6 harg6 x4 c j
  | 1 => raw arg7 harg7 x5 c j
  | 2 => raw arg8 harg8 x6 c j
  | 3 => raw arg9 harg9 x7 c j

/-- The product block: the matrix product of the rows of x's quantised matrix with a slab of dequantised tiles, times both global scales. -/
def prod (xs ds : F .f32) (a : Vec F S1792x2048 .bf16) (b : Vec F S1x2048x512 .bf16) : FVec F S1792x512 .f32 :=
  mulf (matmul dot_S1792x2048_S2048x512_S1792x512_1_0_0_1_n_n none a (shapeCast S2048x512 b shapeCasts_S1x2048x512_S2048x512) (constant S1792x512 .f32 0x00000000#32))
    (broadcast S1792x512 (Scalar.mulf xs ds))

/-- The 1792 rows of the left operand the step's row block uses, as loaded. -/
def rows (arg5 : Memref sig .tc .vmem S7168x2048 .bf16) (h : arg5.IsWhole) (i : grid0.Coords) (hi : cond0_1 i) (x : Vec F S7168x2048 .bf16) : Vec F S1792x2048 .bf16 :=
  View.readAt (Elt F) arg5.view (Rect.unit (s := S7168x2048) (k0_off5 i) S1792x2048.size (k0_off5_inb i hi)).toLoadRect (h.unread x)

/-- The half of the scratch array the step multiplies by, as loaded. -/
def slab (arg14 : Memref sig .tc .vmem S2x2048x512 .bf16) (h : arg14.IsWhole) (i : grid0.Coords) (hi : cond0_1 i) (x : Vec F S2x2048x512 .bf16) : Vec F S1x2048x512 .bf16 :=
  View.readAt (Elt F) arg14.view (Rect.unit (s := S2x2048x512) (k0_off6 i) S1x2048x512.size (k0_off6_inb i hi)).toLoadRect (h.unread x)

/-- The one store of a block of scales, as a piece. -/
def sbPiece (y : FVec F S32x512 .fp8e4m3) : List (View.Piece (Elt F) S32x512 .fp8e4m3) :=
  [⟨Rect.unit (s := S32x512) ![0, 0] S32x512.size inb_S32x512_S32x512_0_0, y⟩]

/-- The one store of a product block, as a piece. -/
def dwPiece (y : FVec F S1792x512 .f32) : List (View.Piece (Elt F) S1792x512 .f32) :=
  [⟨Rect.unit (s := S1792x512) ![0, 0] S1792x512.size inb_S1792x512_S1792x512_0_0, y⟩]

theorem sbCover (y : FVec F S32x512 .fp8e4m3) (z : S32x512.Idx) : ∃ p ∈ sbPiece y, z ∈ p.1.set :=
  View.cover_of_tiled (sbPiece y) S32x512.size (by rfl) z

theorem dwCover (y : FVec F S1792x512 .f32) (z : S1792x512.Idx) : ∃ p ∈ dwPiece y, z ∈ p.1.set :=
  View.cover_of_tiled (dwPiece y) S1792x512.size (by rfl) z

/-- A store of a whole array leaves the stored contents. -/
theorem canon_unit {s : Shape} {e : EltTy} (off : Fin s.rank → Nat) (h0 : ∀ a, off a = 0) (inb : ∀ a, off a + s.size a ≤ s.size a)
    (y : s.Idx → Elt F e) : View.canon (Val := Elt F) [⟨Rect.unit (s := s) off s.size inb, y⟩] = y := by
  funext z
  have e : (Rect.unit (s := s) off s.size inb).emb z = z := by
    funext a; apply Fin.ext; rw [Rect.emb_apply]; simp [h0]
  exact (congrArg _ e.symm).trans (View.canon_cons_emb (Val := Elt F) (Rect.unit (s := s) off s.size inb) y [] z)

theorem zero2 : ∀ a, (![0, 0] : Fin 2 → Nat) a = 0 := by decide

theorem sbPiece_canon (y : FVec F S32x512 .fp8e4m3) : View.canon (Val := Elt F) (sbPiece y) = y :=
  canon_unit (s := S32x512) (e := .fp8e4m3) ![0, 0] zero2 inb_S32x512_S32x512_0_0 y

theorem dwPiece_canon (y : FVec F S1792x512 .f32) : View.canon (Val := Elt F) (dwPiece y) = y :=
  canon_unit (s := S1792x512) (e := .f32) ![0, 0] zero2 inb_S1792x512_S1792x512_0_0 y

end Cert.WgradIdeal.Hand

end
-- ==== Proof.WgradIdeal.Step.lean ====
/-
  What the scratch array holds after a step's 128 stores: the step's 512 rows of its half replaced by the dequantised
  block, everything else as before.
-/
module

public import proofs.«01_k».proof.Proof.WgradIdeal.Tile
public import Idealize.ShloMosaic.Lib.ValueIdxCore
public import Idealize.ShloMosaic.Lib.Pipeline.Value

@[expose] public section

-- membership in a rectangle of production extents: the elaborator's structural look recurses once per coordinate
set_option maxRecDepth 16384

noncomputable section

namespace Cert.WgradIdeal.Hand

open Cert.WgradIdeal Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- A tile's index from two numbers. -/
def at2 (r x : Nat) : S16x128.Idx := ix2 (⟨r % 16, Nat.mod_lt _ (by decide)⟩ : Fin 16) (⟨x % 128, Nat.mod_lt _ (by decide)⟩ : Fin 128)

/-- The 128 tiles as one 512 × 512 block: row 256 c + 16 k + g, column 128 l + x is tile (c, l, k) at (g, x). -/
def blk (T : Fin 2 → Fin 4 → Nat → FVec F S16x128 .bf16) (r x : Nat) : Elt F .bf16 :=
  T (Fin.ofNat 2 (r / 256)) (Fin.ofNat 4 (x / 128)) (r % 256 / 16) (at2 r x)

theorem blk_at (T : Fin 2 → Fin 4 → Nat → FVec F S16x128 .bf16) (c : Fin 2) (l : Fin 4) (k : Fin 16) (g x : Nat) (hg : g < 16) (hx : x < 128) :
    blk T (256 * c.val + 16 * k.val + g) (128 * l.val + x) = T c l k.val (at2 g x) := by
  have h1 := c.isLt; have h2 := l.isLt; have h3 := k.isLt
  have e1 : Fin.ofNat 2 ((256 * c.val + 16 * k.val + g) / 256) = c := by apply Fin.ext; simp [Fin.ofNat]; omega
  have e2 : Fin.ofNat 4 ((128 * l.val + x) / 128) = l := by apply Fin.ext; simp [Fin.ofNat]; omega
  have e3 : (256 * c.val + 16 * k.val + g) % 256 / 16 = k.val := by omega
  have e4 : at2 (256 * c.val + 16 * k.val + g) (128 * l.val + x) = at2 g x := by
    unfold at2; congr 1 <;> apply Fin.ext <;> simp <;> omega
  unfold blk; rw [e1, e2, e3, e4]

/-- What a piece stores, at an index of its 1 × 16 × 128 block. -/
theorem piece_val (v : FVec F S16x128 .bf16) (x : S1x16x128.Idx) :
    shapeCast S1x16x128 v shapeCasts_S16x128_S1x16x128 x = v (at2 (x 1).val (x 2).val) := by
  refine (shapeCast_addUnit_apply ![16, 128] v shapeCasts_S16x128_S1x16x128 x).trans (congrArg v ?_)
  funext a
  have h1 : (x 1).val < 16 := (x 1).isLt
  have h2 : (x 2).val < 128 := (x 2).isLt
  match a with
  | ⟨0, _⟩ => exact Fin.ext (Nat.mod_eq_of_lt h1).symm
  | ⟨1, _⟩ => exact Fin.ext (Nat.mod_eq_of_lt h2).symm

variable {sig' : RefSig} {κ : Kind} {sp : Space}

/-- Reading the scratch array after the 128 stores. -/
theorem read_pieces (v : View sig' κ sp S2x2048x512 .bf16) (f : v.ty.Contents (Elt F)) (off : Fin 4 → Fin 2 → Fin 16 → Fin 3 → Nat)
    (inb : ∀ l c k, ∀ a, off l c k a + S1x16x128.size a ≤ S2x2048x512.size a) (T : Fin 2 → Fin 4 → Nat → FVec F S16x128 .bf16) (p m : Nat)
    (ho : ∀ l c k, off l c k = ![p, 512 * m + 256 * c.val + 16 * k.val, 128 * l.val]) (y : S2x2048x512.Idx) :
    v.read (Elt F) (v.writes (Elt F) f (pieces off inb T)) y
      = if (y 0).val = p ∧ 512 * m ≤ (y 1).val ∧ (y 1).val < 512 * m + 512 then blk T ((y 1).val - 512 * m) (y 2).val else v.read (Elt F) f y := by
  have hmem : ∀ q ∈ pieces off inb T, ∃ l c k, q = ⟨Rect.unit (s := S2x2048x512) (off l c k) S1x16x128.size (inb l c k), shapeCast S1x16x128 (T c l k.val) shapeCasts_S16x128_S1x16x128⟩ := by
    intro q hq
    unfold pieces at hq
    rw [List.mem_flatMap] at hq
    obtain ⟨c, -, hq⟩ := hq
    rw [List.mem_flatMap] at hq
    obtain ⟨l, -, hq⟩ := hq
    rw [List.mem_map] at hq
    obtain ⟨k, -, hq⟩ := hq
    exact ⟨l, c, k, hq.symm⟩
  have hin : ∀ (l : Fin 4) (c : Fin 2) (k : Fin 16), (⟨Rect.unit (s := S2x2048x512) (off l c k) S1x16x128.size (inb l c k), shapeCast S1x16x128 (T c l k.val) shapeCasts_S16x128_S1x16x128⟩ : View.Piece (Elt F) S2x2048x512 .bf16) ∈ pieces off inb T := by
    intro l c k
    unfold pieces
    rw [List.mem_flatMap]
    refine ⟨c, by fin_cases c <;> decide, ?_⟩
    rw [List.mem_flatMap]
    refine ⟨l, by fin_cases l <;> decide, ?_⟩
    rw [List.mem_map]
    exact ⟨k, by fin_cases k <;> decide, rfl⟩
  have y2 : (y 2).val < 512 := (y 2).isLt
  split_ifs with h
  · obtain ⟨h0, h1, h2⟩ := h
    refine View.read_writes_apply_of_pieces v f (fun z => blk T ((z 1).val - 512 * m) (z 2).val) _ ?_ y ?_
    · intro q hq x
      obtain ⟨l, c, k, rfl⟩ := hmem q hq
      have x1 : (x 1).val < 16 := (x 1).isLt
      have x2 : (x 2).val < 128 := (x 2).isLt
      refine (piece_val (T c l k.val) x).trans ?_
      have e1 : ((Rect.unit (s := S2x2048x512) (off l c k) S1x16x128.size (inb l c k)).emb x 1).val - 512 * m = 256 * c.val + 16 * k.val + (x 1).val := by
        rw [Rect.emb_apply]; simp [ho]; omega
      have e2 : ((Rect.unit (s := S2x2048x512) (off l c k) S1x16x128.size (inb l c k)).emb x 2).val = 128 * l.val + (x 2).val := by
        rw [Rect.emb_apply]; simp [ho]
      show _ = blk T (((Rect.unit (s := S2x2048x512) (off l c k) S1x16x128.size (inb l c k)).emb x 1).val - 512 * m) ((Rect.unit (s := S2x2048x512) (off l c k) S1x16x128.size (inb l c k)).emb x 2).val
      rw [e1, e2, blk_at T c l k _ _ x1 x2]
    · refine ⟨_, hin ⟨(y 2).val / 128, by omega⟩ ⟨((y 1).val - 512 * m) / 256, by omega⟩ ⟨((y 1).val - 512 * m) % 256 / 16, by omega⟩, ?_⟩
      rw [Rect.mem_set_unit]
      intro a
      rw [ho]
      match a with
      | ⟨0, _⟩ => simp; omega
      | ⟨1, _⟩ => simp; omega
      | ⟨2, _⟩ => simp; omega
  · refine View.read_writes_apply_of_forall_not_mem v f y _ ?_
    intro q hq hy
    obtain ⟨l, c, k, rfl⟩ := hmem q hq
    rw [Rect.mem_set_unit] at hy
    apply h
    have a0 := hy 0
    have a1 := hy 1
    rw [ho] at a0 a1
    simp at a0 a1
    have := c.isLt; have := k.isLt
    omega

end Cert.WgradIdeal.Hand

end
-- ==== Proof.WgradIdeal.Reads.lean ====
/-
  The loads of a grid step, read off the blocks themselves: which element of which block each one is.
-/
module

public import proofs.«01_k».proof.Proof.WgradIdeal.Step
public import Idealize.ShloMosaic.Lib.WholeRead

@[expose] public section

-- membership in a rectangle of production extents: the elaborator's structural look recurses once per coordinate
set_option maxRecDepth 16384

noncomputable section

namespace Cert.WgradIdeal.Hand

open Cert.WgradIdeal Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Sign `j` of the array of signs, divided by 4. -/
def sgnP (x : Vec F S16 .f32) (j : Nat) : F .f32 := Scalar.mulf (x (ix1 (Fin.ofNat 16 j))) (Scalar.ofBits .f32 0x3E800000#32)

/-- The one element of a one-element array. -/
def scalP (x : Vec F S1 .f32) : F .f32 := x (ix1 (0 : Fin 1))

/-- Pair load `j` of chunk `c`, off the block itself. -/
def rawP (x : Vec F S512x128 .bf16) (c : Fin 2) (j : Nat) : Vec F S16x2x128 .bf16 := fun i =>
  x (ix2 (Fin.ofNat 512 (256 * c.val + 16 * (i 0).val + 2 * (j % 8) + (i 1).val)) (Fin.ofNat 128 (i 2).val))

/-- The pair loads of the four column tiles, off the four blocks. -/
def rawTP (x4 x5 x6 x7 : Vec F S512x128 .bf16) (c : Fin 2) (l : Fin 4) (j : Nat) : Vec F S16x2x128 .bf16 :=
  match l with
  | 0 => rawP x4 c j
  | 1 => rawP x5 c j
  | 2 => rawP x6 c j
  | 3 => rawP x7 c j

/-- The 1792 rows of row block `q`. -/
def rowsP (q : Nat) (x : Vec F S7168x2048 .bf16) : Vec F S1792x2048 .bf16 := fun i =>
  x (ix2 (Fin.ofNat 7168 (1792 * q + (i 0).val)) (Fin.ofNat 2048 (i 1).val))

/-- Half `p` of the scratch array. -/
def slabP (p : Nat) (x : Vec F S2x2048x512 .bf16) : Vec F S1x2048x512 .bf16 := fun i =>
  x (ix3 (Fin.ofNat 2 p) (Fin.ofNat 2048 (i 1).val) (Fin.ofNat 512 (i 2).val))

theorem scal_eq (arg : Memref sig .tc .smem S1 .f32) (h : arg.IsWhole) (x : Vec F S1 .f32) : scal arg h x = scalP x := by
  unfold scal scalP
  rw [h.readAt_unread]
  congr 1
  funext a
  match a with
  | ⟨0, _⟩ => exact Subsingleton.elim (α := Fin 1) _ _

theorem sgn_eq (arg : Memref sig .tc .smem S16 .f32) (h : arg.IsWhole) (x : Vec F S16 .f32) : sgn arg h x = sgnP x := by
  funext j
  unfold sgn sgnP
  rw [h.readAt_unread]
  congr 2
  funext a
  match a with
  | ⟨0, _⟩ =>
    apply Fin.ext
    rw [LoadRect.idx_apply]
    simp [Rect.unit, Shape.Idx.first]

theorem amx_eq (arg : Memref sig .tc .vmem S32x512 .f32) (h : arg.IsWhole) (x : Vec F S32x512 .f32) : amx arg h x = x := by
  funext i
  unfold amx
  rw [h.readAt_unread]
  congr 1
  funext a
  apply Fin.ext
  rw [LoadRect.idx_apply]
  match a with
  | ⟨0, _⟩ => simp [Rect.unit]
  | ⟨1, _⟩ => simp [Rect.unit]

theorem raw_eq (arg : Memref sig .tc .vmem S512x128 .bf16) (h : arg.IsWhole) (x : Vec F S512x128 .bf16) (c : Fin 2) (j : Nat) :
    raw arg h x c j = rawP x c j := by
  funext i
  have i0 : (i 0).val < 16 := (i 0).isLt
  have i1 : (i 1).val < 2 := (i 1).isLt
  have i2 : (i 2).val < 128 := (i 2).isLt
  have hc := c.isLt
  unfold raw rawP
  refine (congrFun (h.read_unread x) _).trans (congrArg x ?_)
  refine Shape.reshapeEquiv_eq_of_rowMajor _ ?_
  rw [Shape.rowMajor_val_two, Shape.rowMajor_val_three]
  simp only [LoadRect.idx_apply]
  simp [Fin.ofNat]
  omega

theorem rawT_eq (arg6 : Memref sig .tc .vmem S512x128 .bf16) (harg6 : arg6.IsWhole) (arg7 : Memref sig .tc .vmem S512x128 .bf16) (harg7 : arg7.IsWhole)
    (arg8 : Memref sig .tc .vmem S512x128 .bf16) (harg8 : arg8.IsWhole) (arg9 : Memref sig .tc .vmem S512x128 .bf16) (harg9 : arg9.IsWhole)
    (x4 x5 x6 x7 : Vec F S512x128 .bf16) :
    rawT arg6 harg6 arg7 harg7 arg8 harg8 arg9 harg9 x4 x5 x6 x7 = rawTP x4 x5 x6 x7 := by
  funext c l j
  unfold rawT rawTP
  fin_cases l <;> exact raw_eq _ _ _ _ _

theorem rows_eq (arg : Memref sig .tc .vmem S7168x2048 .bf16) (h : arg.IsWhole) (i : grid0.Coords) (hi : cond0_1 i) (x : Vec F S7168x2048 .bf16) :
    rows arg h i hi x = rowsP (i 1).val x := by
  funext z
  have z0 : (z 0).val < 1792 := (z 0).isLt
  have z1 : (z 1).val < 2048 := (z 1).isLt
  have i1 : (i 1).val < 4 := (i 1).isLt
  unfold rows rowsP
  rw [h.readAt_unread]
  congr 1
  funext a
  apply Fin.ext
  rw [LoadRect.idx_apply]
  match a with
  | ⟨0, _⟩ => simp [Rect.unit, k0_off5_eq, Fin.ofNat]; omega
  | ⟨1, _⟩ => simp [Rect.unit, k0_off5_eq, Fin.ofNat]; omega

theorem slab_eq (arg : Memref sig .tc .vmem S2x2048x512 .bf16) (h : arg.IsWhole) (i : grid0.Coords) (hi : cond0_1 i) (x : Vec F S2x2048x512 .bf16) :
    slab arg h i hi x = slabP (1 - (i 0).val % 2) x := by
  funext z
  have z0 : (z 0).val < 1 := (z 0).isLt
  have z1 : (z 1).val < 2048 := (z 1).isLt
  have z2 : (z 2).val < 512 := (z 2).isLt
  unfold slab slabP
  rw [h.readAt_unread]
  congr 1
  funext a
  apply Fin.ext
  rw [LoadRect.idx_apply]
  match a with
  | ⟨0, _⟩ => simp [Rect.unit, k0_off6_eq, Fin.ofNat]; omega
  | ⟨1, _⟩ => simp [Rect.unit, k0_off6_eq, Fin.ofNat]; omega
  | ⟨2, _⟩ => simp [Rect.unit, k0_off6_eq, Fin.ofNat]; omega

end Cert.WgradIdeal.Hand

end
-- ==== Proof.WgradIdeal.RunA.lean ====
/-
  One grid step of the weight-gradient kernel in the first four steps, run symbolically.
-/
module

public import proofs.«01_k».proof.Proof.WgradIdeal.Tile

@[expose] public section

-- membership in a rectangle of production extents: the elaborator's structural look recurses once per coordinate
set_option maxRecDepth 16384

noncomputable section

namespace Cert.WgradIdeal.Hand

open Cert.WgradIdeal Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 7084000 in
/-- The body in the first four steps: the inputs come back as they were, the scratch array with the 128 tiles written over what it held. -/
theorem kernelRun0_A (c : Dev nD) (i : grid0.Coords) (arg2 : Memref sig .tc .smem S16 .f32) (harg2 : arg2.IsWhole) (arg3 : Memref sig .tc .smem S1 .f32) (harg3 : arg3.IsWhole) (arg4 : Memref sig .tc .smem S1 .f32) (harg4 : arg4.IsWhole) (arg5 : Memref sig .tc .vmem S7168x2048 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S32x512 .f32) (harg10 : arg10.IsWhole) (arg11 : Memref sig .tc .vmem S1792x512 .f32) (harg11 : arg11.IsWhole) (arg12 : Memref sig .tc .vmem S256x512 .i8) (harg12 : arg12.IsWhole) (arg13 : Memref sig .tc .vmem S32x512 .fp8e4m3) (harg13 : arg13.IsWhole) (arg14 : Memref sig .tc .vmem S2x2048x512 .bf16) (harg14 : arg14.IsWhole) (arg15 : Memref sig .tc .vmem S4x64x128 .i32) (harg15 : arg15.IsWhole) (hc0 : cond0_0 i) (hc1 : ¬cond0_1 i)
    (x0 : Vec F S16 .f32) (x1 : Vec F S1 .f32) (x2 : Vec F S1 .f32) (x3 : Vec F S7168x2048 .bf16) (x4 : Vec F S512x128 .bf16) (x5 : Vec F S512x128 .bf16) (x6 : Vec F S512x128 .bf16) (x7 : Vec F S512x128 .bf16) (x8 : Vec F S32x512 .f32) (d14 : Vec F S2x2048x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare d14 ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare (sb8 (scal arg4 harg4 x2) (amx arg10 harg10 x8)) ∗ owns (c : Thread nD τ) arg14 fullShare (arg14.view.read (Elt F) (arg14.view.writes (Elt F) (harg14.unread d14) (pieces (offA i) (offA_inb i) (tile (sgn arg2 harg2 x0) (rawT arg6 harg6 arg7 harg7 arg8 harg8 arg9 harg9 x4 x5 x6 x7) (scal arg4 harg4 x2) (amx arg10 harg10 x8))))) ∗ (∃ d, owns (c : Thread nD τ) arg15 fullShare d)) -∗ K ⟨⟩))
          ⊢ wp frame (wpE (defs₀ (F := F)) Variants.none c none) E (cc0_wgrad i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_wgrad_eq_skeleton]; unfold cc0_wgrad_skel
    simp only [k0_part432_eq_skeleton, k0_part213_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part214_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part215_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [H10]
    · iexists _, _; isplitr; swap; · iexact H10
      ipureintro; rfl
    isplitl [H11]
    · iexists _; isplitr; swap; · iexact H11
      ipureintro
      refine Eq.trans ?_ ((View.read_writes_eq_canon arg13.view f11 _ (sbCover _)).trans (sbPiece_canon _))
      sl_kernel_rfl
    isplitl [HS0]
    · iexists _; isplitr; swap; · iexact HS0
      ipureintro; sl_kernel_rfl
    iexists _, _; isplitr; swap; · iexact HS1
    ipureintro; rfl

end Cert.WgradIdeal.Hand

end
-- ==== Proof.WgradIdeal.RunB.lean ====
/-
  One grid step of the weight-gradient kernel in the later steps, run symbolically.
-/
module

public import proofs.«01_k».proof.Proof.WgradIdeal.Tile

@[expose] public section

-- membership in a rectangle of production extents: the elaborator's structural look recurses once per coordinate
set_option maxRecDepth 16384

noncomputable section

namespace Cert.WgradIdeal.Hand

open Cert.WgradIdeal Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 7108000 in
/-- The body in the later steps: the inputs come back as they were, the scratch array with the 128 tiles written over what it held, and the product block with the product of the other half of the scratch. -/
theorem kernelRun0_B (c : Dev nD) (i : grid0.Coords) (arg2 : Memref sig .tc .smem S16 .f32) (harg2 : arg2.IsWhole) (arg3 : Memref sig .tc .smem S1 .f32) (harg3 : arg3.IsWhole) (arg4 : Memref sig .tc .smem S1 .f32) (harg4 : arg4.IsWhole) (arg5 : Memref sig .tc .vmem S7168x2048 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S32x512 .f32) (harg10 : arg10.IsWhole) (arg11 : Memref sig .tc .vmem S1792x512 .f32) (harg11 : arg11.IsWhole) (arg12 : Memref sig .tc .vmem S256x512 .i8) (harg12 : arg12.IsWhole) (arg13 : Memref sig .tc .vmem S32x512 .fp8e4m3) (harg13 : arg13.IsWhole) (arg14 : Memref sig .tc .vmem S2x2048x512 .bf16) (harg14 : arg14.IsWhole) (arg15 : Memref sig .tc .vmem S4x64x128 .i32) (harg15 : arg15.IsWhole) (hc0 : ¬cond0_0 i) (hc1 : cond0_1 i)
    (x0 : Vec F S16 .f32) (x1 : Vec F S1 .f32) (x2 : Vec F S1 .f32) (x3 : Vec F S7168x2048 .bf16) (x4 : Vec F S512x128 .bf16) (x5 : Vec F S512x128 .bf16) (x6 : Vec F S512x128 .bf16) (x7 : Vec F S512x128 .bf16) (x8 : Vec F S32x512 .f32) (d14 : Vec F S2x2048x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare d14 ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (prod (scal arg3 harg3 x1) (scal arg4 harg4 x2) (rows arg5 harg5 i hc1 x3) (slab arg14 harg14 i hc1 d14)) ∗ (∃ d, owns (c : Thread nD τ) arg12 fullShare d) ∗ owns (c : Thread nD τ) arg13 fullShare (sb8 (scal arg4 harg4 x2) (amx arg10 harg10 x8)) ∗ owns (c : Thread nD τ) arg14 fullShare (arg14.view.read (Elt F) (arg14.view.writes (Elt F) (harg14.unread d14) (pieces (offB i) (offB_inb i) (tile (sgn arg2 harg2 x0) (rawT arg6 harg6 arg7 harg7 arg8 harg8 arg9 harg9 x4 x5 x6 x7) (scal arg4 harg4 x2) (amx arg10 harg10 x8))))) ∗ (∃ d, owns (c : Thread nD τ) arg15 fullShare d)) -∗ K ⟨⟩))
          ⊢ wp frame (wpE (defs₀ (F := F)) Variants.none c none) E (cc0_wgrad i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_wgrad_eq_skeleton]; unfold cc0_wgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro
      refine Eq.trans ?_ ((View.read_writes_eq_canon arg11.view f9 _ (dwCover _)).trans (dwPiece_canon _))
      sl_kernel_rfl
    isplitl [H10]
    · iexists _, _; isplitr; swap; · iexact H10
      ipureintro; rfl
    isplitl [H11]
    · iexists _; isplitr; swap; · iexact H11
      ipureintro
      refine Eq.trans ?_ ((View.read_writes_eq_canon arg13.view f11 _ (sbCover _)).trans (sbPiece_canon _))
      sl_kernel_rfl
    isplitl [HS0]
    · iexists _; isplitr; swap; · iexact HS0
      ipureintro; sl_kernel_rfl
    iexists _, _; isplitr; swap; · iexact HS1
    ipureintro; rfl

end Cert.WgradIdeal.Hand

end
-- ==== Proof.WgradIdeal.Carry.lean ====
/-
  What the scratch array carries from step to step, and the body's run with its loads read off the blocks.
-/
module

public import proofs.«01_k».proof.Proof.WgradIdeal.Reads
public import proofs.«01_k».proof.Proof.WgradIdeal.RunA
public import proofs.«01_k».proof.Proof.WgradIdeal.RunB

@[expose] public section

-- membership in a rectangle of production extents: the elaborator's structural look recurses once per coordinate
set_option maxRecDepth 16384

noncomputable section

namespace Cert.WgradIdeal.Hand

open Cert.WgradIdeal Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The tiles grid step `t` computes, off its blocks. -/
def tiles (c : Dev nD) (t : Fin cfg0.N) : Fin 2 → Fin 4 → Nat → FVec F S16x128 .bf16 :=
  tile (sgnP (iblk m c 0 t)) (rawTP (iblk m c 4 t) (iblk m c 5 t) (iblk m c 6 t) (iblk m c 7 t)) (scalP (iblk m c 2 t)) (iblk m c 8 t)

/-- What the scratch array holds before step `t`: the blocks of the last eight steps, each in its half and its 512 rows. -/
def Holds (c : Dev nD) (t : Nat) (d : Vec F S2x2048x512 .bf16) : Prop :=
  ∀ t' : Fin cfg0.N, t'.val < t → t ≤ t'.val + 8 → ∀ y : S2x2048x512.Idx, (y 0).val = t'.val / 4 % 2 → (y 1).val / 512 = t'.val % 4 →
    d y = blk (tiles m c t') ((y 1).val % 512) (y 2).val

theorem holds_zero (c : Dev nD) (d : Vec F S2x2048x512 .bf16) : Holds m c 0 d := fun t' h => absurd h (Nat.not_lt_zero _)

/-- The 128 stores of step `t` keep the invariant. -/
theorem holds_succ (c : Dev nD) (t : Fin cfg0.N) (arg14 : Memref sig .tc .vmem S2x2048x512 .bf16) (h14 : arg14.IsWhole) (d : Vec F S2x2048x512 .bf16)
    (hd : Holds m c t.val d) (off : Fin 4 → Fin 2 → Fin 16 → Fin 3 → Nat) (inb : ∀ l c k, ∀ a, off l c k a + S1x16x128.size a ≤ S2x2048x512.size a)
    (ho : ∀ l c k, off l c k = ![t.val / 4 % 2, 512 * (t.val % 4) + 256 * c.val + 16 * k.val, 128 * l.val]) :
    Holds m c (t.val + 1) (arg14.view.read (Elt F) (arg14.view.writes (Elt F) (h14.unread d) (pieces off inb (tiles m c t)))) := by
  intro t' h1 h2 y h3 h4
  rw [read_pieces arg14.view (h14.unread d) off inb (tiles m c t) (t.val / 4 % 2) (t.val % 4) ho y]
  have y1 : (y 1).val < 2048 := (y 1).isLt
  split_ifs with h
  · have e : t' = t := by apply Fin.ext; omega
    subst e
    congr 1
    omega
  · have hne : t'.val ≠ t.val := by intro e; apply h; omega
    rw [h14.read_unread]
    exact hd t' (by omega) (by omega) y h3 h4

/-- Grid step number `q`. -/
def pt (q : Nat) : Fin cfg0.N := ⟨q % 152, by rw [show cfg0.N = 152 from N_0]; exact Nat.mod_lt _ (by decide)⟩

/-- The right operand of the product step `t` takes: row `r` is row `r % 512` of the block step 4 (t / 4 - 1) + r / 512 left. -/
def slabT (c : Dev nD) (t : Fin cfg0.N) : Vec F S1x2048x512 .bf16 := fun i =>
  blk (tiles m c (pt (4 * (t.val / 4 - 1) + (i 1).val / 512))) ((i 1).val % 512) (i 2).val

theorem slab_holds (c : Dev nD) (t : Fin cfg0.N) (ht : 4 ≤ t.val) (d : Vec F S2x2048x512 .bf16) (hd : Holds m c t.val d) :
    slabP (1 - t.val / 4 % 2) d = slabT m c t := by
  funext i
  have i1 : (i 1).val < 2048 := (i 1).isLt
  have i2 : (i 2).val < 512 := (i 2).isLt
  have hN : t.val < 152 := lt_of_lt_of_eq t.isLt (show cfg0.N = 152 from N_0)
  unfold slabP slabT
  have hp : (pt (4 * (t.val / 4 - 1) + (i 1).val / 512)).val = 4 * (t.val / 4 - 1) + (i 1).val / 512 := by
    show _ % 152 = _; omega
  rw [hd (pt (4 * (t.val / 4 - 1) + (i 1).val / 512)) (by rw [hp]; omega) (by rw [hp]; omega) _ ?_ ?_]
  · congr 1
    · show (i 1).val % 2048 % 512 = _; omega
    · show (i 2).val % 512 = _; omega
  · rw [hp]; show (1 - t.val / 4 % 2) % 2 = _; omega
  · rw [hp]; show (i 1).val % 2048 / 512 = _; omega

/-- The product block of step `t`. -/
def dwT (c : Dev nD) (t : Fin cfg0.N) : FVec F S1792x512 .f32 :=
  prod (scalP (iblk m c 1 t)) (scalP (iblk m c 2 t)) (rowsP (t.val % 4) (iblk m c 3 t)) (slabT m c t)

/-- The block scales of step `t`. -/
def sbT (c : Dev nD) (t : Fin cfg0.N) : FVec F S32x512 .fp8e4m3 := sb8 (scalP (iblk m c 2 t)) (iblk m c 8 t)

theorem coords0 (t : Fin cfg0.N) : (grid0.coords t 0).val = t.val / 4 := by
  have hN : t.val < 152 := lt_of_lt_of_eq t.isLt (show cfg0.N = 152 from N_0)
  have e0 : (grid0.coords t 0).val = t.val / 4 % 38 := Pipeline.Grid.coords_val t 0 (by decide) rfl
  rw [e0]; omega

theorem coords1 (t : Fin cfg0.N) : (grid0.coords t 1).val = t.val % 4 := by
  have e1 : (grid0.coords t 1).val = t.val / 1 % 4 := Pipeline.Grid.coords_val t 1 (by decide) rfl
  rw [e1, Nat.div_one]

/-- The body in the first four steps, its loads read off the blocks. -/
theorem stepA (c : Dev nD) (i : grid0.Coords) (arg2 : Memref sig .tc .smem S16 .f32) (harg2 : arg2.IsWhole) (arg3 : Memref sig .tc .smem S1 .f32) (harg3 : arg3.IsWhole) (arg4 : Memref sig .tc .smem S1 .f32) (harg4 : arg4.IsWhole) (arg5 : Memref sig .tc .vmem S7168x2048 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S32x512 .f32) (harg10 : arg10.IsWhole) (arg11 : Memref sig .tc .vmem S1792x512 .f32) (harg11 : arg11.IsWhole) (arg12 : Memref sig .tc .vmem S256x512 .i8) (harg12 : arg12.IsWhole) (arg13 : Memref sig .tc .vmem S32x512 .fp8e4m3) (harg13 : arg13.IsWhole) (arg14 : Memref sig .tc .vmem S2x2048x512 .bf16) (harg14 : arg14.IsWhole) (arg15 : Memref sig .tc .vmem S4x64x128 .i32) (harg15 : arg15.IsWhole) (hc0 : cond0_0 i) (hc1 : ¬cond0_1 i)
    (x0 : Vec F S16 .f32) (x1 : Vec F S1 .f32) (x2 : Vec F S1 .f32) (x3 : Vec F S7168x2048 .bf16) (x4 : Vec F S512x128 .bf16) (x5 : Vec F S512x128 .bf16) (x6 : Vec F S512x128 .bf16) (x7 : Vec F S512x128 .bf16) (x8 : Vec F S32x512 .f32) (d14 : Vec F S2x2048x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare d14 ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare (sb8 (scalP x2) x8) ∗ owns (c : Thread nD τ) arg14 fullShare (arg14.view.read (Elt F) (arg14.view.writes (Elt F) (harg14.unread d14) (pieces (offA i) (offA_inb i) (tile (sgnP x0) (rawTP x4 x5 x6 x7) (scalP x2) x8)))) ∗ (∃ d, owns (c : Thread nD τ) arg15 fullShare d)) -∗ K ⟨⟩))
          ⊢ wp frame (wpE (defs₀ (F := F)) Variants.none c none) E (cc0_wgrad i arg2 harg2 arg3 harg3 arg4 harg4 arg5 harg5 arg6 harg6 arg7 harg7 arg8 harg8 arg9 harg9 arg10 harg10 arg11 harg11 arg12 harg12 arg13 harg13 arg14 harg14 arg15 harg15) K := by
  have h := kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 d14
  simp only [scal_eq, sgn_eq, rawT_eq, amx_eq, rows_eq, slab_eq] at h
  exact h

/-- The body in the later steps, its loads read off the blocks. -/
theorem stepB (c : Dev nD) (i : grid0.Coords) (arg2 : Memref sig .tc .smem S16 .f32) (harg2 : arg2.IsWhole) (arg3 : Memref sig .tc .smem S1 .f32) (harg3 : arg3.IsWhole) (arg4 : Memref sig .tc .smem S1 .f32) (harg4 : arg4.IsWhole) (arg5 : Memref sig .tc .vmem S7168x2048 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S32x512 .f32) (harg10 : arg10.IsWhole) (arg11 : Memref sig .tc .vmem S1792x512 .f32) (harg11 : arg11.IsWhole) (arg12 : Memref sig .tc .vmem S256x512 .i8) (harg12 : arg12.IsWhole) (arg13 : Memref sig .tc .vmem S32x512 .fp8e4m3) (harg13 : arg13.IsWhole) (arg14 : Memref sig .tc .vmem S2x2048x512 .bf16) (harg14 : arg14.IsWhole) (arg15 : Memref sig .tc .vmem S4x64x128 .i32) (harg15 : arg15.IsWhole) (hc0 : ¬cond0_0 i) (hc1 : cond0_1 i)
    (x0 : Vec F S16 .f32) (x1 : Vec F S1 .f32) (x2 : Vec F S1 .f32) (x3 : Vec F S7168x2048 .bf16) (x4 : Vec F S512x128 .bf16) (x5 : Vec F S512x128 .bf16) (x6 : Vec F S512x128 .bf16) (x7 : Vec F S512x128 .bf16) (x8 : Vec F S32x512 .f32) (d14 : Vec F S2x2048x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare d14 ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (prod (scalP x1) (scalP x2) (rowsP (i 1).val x3) (slabP (1 - (i 0).val % 2) d14)) ∗ (∃ d, owns (c : Thread nD τ) arg12 fullShare d) ∗ owns (c : Thread nD τ) arg13 fullShare (sb8 (scalP x2) x8) ∗ owns (c : Thread nD τ) arg14 fullShare (arg14.view.read (Elt F) (arg14.view.writes (Elt F) (harg14.unread d14) (pieces (offB i) (offB_inb i) (tile (sgnP x0) (rawTP x4 x5 x6 x7) (scalP x2) x8)))) ∗ (∃ d, owns (c : Thread nD τ) arg15 fullShare d)) -∗ K ⟨⟩))
          ⊢ wp frame (wpE (defs₀ (F := F)) Variants.none c none) E (cc0_wgrad i arg2 harg2 arg3 harg3 arg4 harg4 arg5 harg5 arg6 harg6 arg7 harg7 arg8 harg8 arg9 harg9 arg10 harg10 arg11 harg11 arg12 harg12 arg13 harg13 arg14 harg14 arg15 harg15) K := by
  have h := kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 d14
  simp only [scal_eq, sgn_eq, rawT_eq, amx_eq, rows_eq, slab_eq] at h
  exact h

end Cert.WgradIdeal.Hand

end
-- ==== Proof.WgradIdeal.Frame.lean ====
/-
  The weight-gradient kernel's run at the ideal numbers: the scratch array carried from step to step, the product blocks and the block scales named.
-/
module

public import proofs.«01_k».proof.Proof.WgradIdeal.Carry
public import Idealize.ShloMosaic.Lib.Claim

@[expose] public section

-- membership in a rectangle of production extents: the elaborator's structural look recurses once per coordinate
set_option maxRecDepth 16384

noncomputable section

namespace Cert.WgradIdeal.Hand

open Cert.WgradIdeal Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window of which nothing is named: the packed codes (10). -/
def forgets0 : Fin 12 → Bool := fun w => w.val == 10

/-- The invariant beside the windows: the scratch array of tiles satisfies `Holds`, the other scratch array holds
    anything, and so does the generator register. -/
def Inv (c : Dev nD) (t : Nat) : sProp 𝕄 :=
  iprop(iprop((∃ d, ⌜Holds m c t d⌝ ∗ owns (c : Thread nD τ) scM0_0 fullShare d) ∗ (∃ d, owns (c : Thread nD τ) scM0_1 fullShare d)) ∗ (∃ r, prngReg c r))

/-- The proof data of the one pipeline on core `c`: the inputs at their blocks, the product block and the block scales
    at their named contents, the codes unnamed, and `Inv` between the steps. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dwT m c t
    | ⟨10, h⟩ => Pipeline.Dat.unnamed (cfg := cfg0) ⟨10, h⟩ t
    | ⟨11, _⟩ => sbT m c t
  Φ t := Inv m c t.val
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = dwT m c t := by dsimp only [dats]
theorem after0_11 (c : Dev nD) (t : Fin cfg0.N) : (dats m 0 c).after 11 t = sbT m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- The product block's window is idle in the first four steps, -/
theorem idle9 : ∀ t : Fin cfg0.N, t.val < 4 → cfg0.idle 9 (grid0.coords t) = true :=
  (by decide +kernel : ∀ t : Fin grid0.N, t.val < 4 → cfg0.idle 9 (grid0.coords t) = true)

/-- and live afterwards; -/
theorem live9 : ∀ t : Fin cfg0.N, 4 ≤ t.val → cfg0.idle 9 (grid0.coords t) = false :=
  (by decide +kernel : ∀ t : Fin grid0.N, 4 ≤ t.val → cfg0.idle 9 (grid0.coords t) = false)

/-- it is not written back in those steps. -/
theorem flush9 : ∀ t : Fin cfg0.N, t.val < 4 → (cfg0.win 9).flush t = false :=
  (by decide +kernel : ∀ t : Fin grid0.N, t.val < 4 → (cfg0.win 9).flush t = false)

/-- The scales' window is never idle. -/
theorem live11 : ∀ t : Fin cfg0.N, cfg0.idle 11 (grid0.coords t) = false :=
  (by decide +kernel : ∀ t : Fin grid0.N, cfg0.idle 11 (grid0.coords t) = false)

/-- In the first four steps the product block's buffer holds whatever it held at the start. -/
theorem before9 (c : Dev nD) : ∀ (n : Nat) (h : n < cfg0.N), n < 4 → ∀ d, (dats m 0 c).before 9 ⟨n, h⟩ d = d := by
  intro n
  induction n with
  | zero => intro h _ d; exact (dats m 0 c).before_out_reset 9 rfl ⟨0, h⟩ (.inl rfl) d
  | succ n ih =>
    intro h h4 d
    have hn : n < cfg0.N := Nat.lt_of_succ_lt h
    rw [(dats m 0 c).before_of_pos 9 ⟨n + 1, h⟩ (Nat.succ_ne_zero n) ((cfg0.win 9).fetch_out rfl _) d]
    have e : (⟨n + 1 - 1, Nat.lt_of_le_of_lt (Nat.sub_le _ _) h⟩ : Fin cfg0.N) = ⟨n, hn⟩ := rfl
    rw [e, flush9 ⟨n, hn⟩ (by show n < 4; omega), if_neg Bool.false_ne_true]
    unfold Dat.left
    rw [show cfg0.idle 9 (cfg0.grid.coords ⟨n, hn⟩) = true from idle9 ⟨n, hn⟩ (by show n < 4; omega)]
    exact ih hn (by omega) d

/-- What the body must leave in each input's buffer: its block. -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
/-- The scales' buffer must be left at the step's scales, -/
theorem leaves0_11 (c : Dev nD) (t : Fin cfg0.N) : (dats m 0 c).leavesExact 11 t = owns (c : Thread nD τ) (ms0_11 t) fullShare (sbT m c t) := by
  unfold Dat.leavesExact; rw [live11 t, after0_11]
/-- the product block's, after the first four steps, at the product; -/
theorem leaves0_9 (c : Dev nD) (t : Fin cfg0.N) (h : 4 ≤ t.val) : (dats m 0 c).leavesExact 9 t = owns (c : Thread nD τ) (ms0_9 t) fullShare (dwT m c t) := by
  unfold Dat.leavesExact; rw [live9 t h, after0_9]
/-- before, at anything. -/
theorem leaves0_9_idle (c : Dev nD) (t : Fin cfg0.N) (h : t.val < 4) : (dats m 0 c).leavesExact 9 t = iprop(∃ d, owns (c : Thread nD τ) (ms0_9 t) fullShare d) := by
  have e : ∀ d, (dats m 0 c).before 9 t d = d := before9 m c t.val t.isLt h
  rw [(dats m 0 c).leavesExact_idle 9 t (idle9 t h) (flush9 t h)]
  simp only [e]; rfl

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d)
    ∗ (dats m 0 c).leavesExact 11 t)

set_option maxHeartbeats 2400000 in
/-- The body at any point: the inputs' buffers hold their blocks; the run of the point's case applies; the scratch
    array it leaves satisfies the invariant of the next point, and after the first four steps the product block is
    the product with the slab the invariant describes. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.castSucc = Inv m c t.val from rfl, show (dats m 0 c).Φ t.succ = Inv m c (t.val + 1) from rfl]
  rw [leaves0_0, leaves0_1, leaves0_2, leaves0_3, leaves0_4, leaves0_5, leaves0_6, leaves0_7, leaves0_8, leaves0_11]
  unfold Inv
  by_cases h0 : t.val < 4
  · have h1 : ¬ 4 ≤ t.val := by omega
    rw [leaves0_9_idle m c t h0]
    iintro ⟨⟨⟨⟨%dS, ⟨%hd, HS0⟩⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((stepA c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) dS) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, HS0, HS1⟩
    isplitl [HS0 HS1 Hg]
    · isplitl [HS0 HS1]
      · isplitl [HS0]
        · iexists _; isplitr; swap; · iexact HS0
          ipureintro; exact holds_succ m c t _ _ dS hd _ _ (fun l c' k => by rw [offA_eq, coords0, coords1])
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have h1 : 4 ≤ t.val := by omega
    rw [leaves0_9 m c t h1]
    have dw_eq : ∀ d : Vec F S2x2048x512 .bf16, Holds m c t.val d →
        (owns (c : Thread nD τ) (ms0_9 t) fullShare (prod (scalP (iblk m c 1 t)) (scalP (iblk m c 2 t)) (rowsP (grid0.coords t 1).val (iblk m c 3 t)) (slabP (1 - (grid0.coords t 0).val % 2) d)) : sProp 𝕄)
          = owns (c : Thread nD τ) (ms0_9 t) fullShare (dwT m c t) := by
      intro d hd
      rw [coords0, coords1, slab_holds m c t h1 d hd]
      rfl
    iintro ⟨⟨⟨⟨%dS, ⟨%hd, HS0⟩⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((stepB c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) dS) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, HS0, HS1⟩
    isplitl [HS0 HS1 Hg]
    · isplitl [HS0 HS1]
      · isplitl [HS0]
        · iexists _; isplitr; swap; · iexact HS0
          ipureintro; exact holds_succ m c t _ _ dS hd _ _ (fun l c' k => by rw [offB_eq, coords0, coords1])
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (Entails.of_eq (dw_eq dS hd)) $$ H9
    isplitl [H10]; · iexact H10
    iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

/-- The scratch arrays and the register as the region opens satisfy the invariant at the start, -/
theorem inv_in (c : Dev nD) : (Pipeline.ΦA spec0 c : sProp 𝕄) ⊢ (dats m 0 c).Φ 0 := by
  rw [show (dats m 0 c).Φ 0 = Inv m c 0 from rfl, PhiA0_eq]
  unfold Inv
  iintro ⟨⟨⟨%d, HS0⟩, HS1⟩, Hg⟩
  isplitl [HS0 HS1]
  · isplitl [HS0]
    · iexists d; isplitr; · ipureintro; exact holds_zero m c d
      iexact HS0
    iexact HS1
  iexact Hg

/-- and the invariant at the end gives them back. -/
theorem inv_out (c : Dev nD) : (dats m 0 c).Φ (Fin.last cfg0.N) ⊢ (Pipeline.ΦA spec0 c : sProp 𝕄) := by
  rw [show (dats m 0 c).Φ (Fin.last cfg0.N) = Inv m c cfg0.N from rfl, PhiA0_eq]
  unfold Inv
  iintro ⟨⟨⟨%d, ⟨-, HS0⟩⟩, HS1⟩, Hg⟩
  isplitl [HS0 HS1]
  · isplitl [HS0]
    · iexists d; iexact HS0
    iexact HS1
  iexact Hg

-- the library theorem's implicit arguments are found by unifying its conclusion with this one, which takes unfolding
-- plain definitions in a metavariable's type
set_option backward.isDefEq.respectTransparency.types false in
/-- The launch: every final state has the arrays the proof data names, and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := inv_in m) (hout := inv_out m)

/-- At the compiled mesh, for any values, from any memory with zero counters: every weakly fair execution of @main on the
    TensorCores terminates, and every final state has every INPUT array of the pipeline unchanged, nothing stated of the
    codes (window 10), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- The frame: the argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.WgradIdeal.Hand

end
-- ==== Proof.WgradIdeal.Quant.lean ====
/-
  The quantiser on extended reals: the kernel's arithmetic and the reference's give the same value.
-/
module

public import Idealize.ShloMosaic.Lib.IdealHost

@[expose] public section

noncomputable section

namespace Cert.WgradIdeal.Hand

open Idealize.ShloMosaic

local notation "rd" => Ideal.liftRound Ideal.roundHalfEven

theorem c_half : Ideal.ofBits .f32 0x3F000000#32 = ((1 / 2 : ℝ) : EReal) := by
  simp [Ideal.ofBits, Ideal.ieee, -EReal.coe_mul] <;> norm_num

theorem c_quarter : Ideal.ofBits .f32 0x3E800000#32 = ((1 / 4 : ℝ) : EReal) := by
  simp [Ideal.ofBits, Ideal.ieee, -EReal.coe_mul] <;> norm_num

theorem c_one : Ideal.ofBits .f32 0x3F800000#32 = ((1 : ℝ) : EReal) := by
  simp [Ideal.ofBits, Ideal.ieee, -EReal.coe_mul] <;> norm_num

theorem c_two : Ideal.ofBits .f32 0x40000000#32 = ((2 : ℝ) : EReal) := by
  simp [Ideal.ofBits, Ideal.ieee, -EReal.coe_mul] <;> norm_num

theorem c_four : Ideal.ofBits .f32 0x40800000#32 = ((4 : ℝ) : EReal) := by
  simp [Ideal.ofBits, Ideal.ieee, -EReal.coe_mul] <;> norm_num

theorem c_six : Ideal.ofBits .f32 0x40C00000#32 = ((6 : ℝ) : EReal) := by
  simp [Ideal.ofBits, Ideal.ieee, -EReal.coe_mul] <;> norm_num

theorem c_msix : Ideal.ofBits .f32 0xC0C00000#32 = ((-6 : ℝ) : EReal) := by
  simp [Ideal.ofBits, Ideal.ieee, -EReal.coe_mul] <;> norm_num

theorem c_off1 : Ideal.ofBits .f32 0x4A800000#32 = ((4194304 : ℝ) : EReal) := by
  simp [Ideal.ofBits, Ideal.ieee, -EReal.coe_mul] <;> norm_num

theorem c_off2 : Ideal.ofBits .f32 0x4B000002#32 = ((8388610 : ℝ) : EReal) := by
  simp [Ideal.ofBits, Ideal.ieee, -EReal.coe_mul] <;> norm_num

theorem c_off4 : Ideal.ofBits .f32 0x4B800004#32 = ((16777224 : ℝ) : EReal) := by
  simp [Ideal.ofBits, Ideal.ieee, -EReal.coe_mul] <;> norm_num

/-- Division of reals by a real other than zero is real division. -/
theorem div_real (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

/-- Rounding half to even commutes with adding an even integer. -/
theorem round_add_even (r : ℝ) (n : ℤ) (hn : Even n) :
    Ideal.roundHalfEven (r + n) = Ideal.roundHalfEven r + n := by
  unfold Ideal.roundHalfEven
  have hf : ⌊r + n⌋ = ⌊r⌋ + n := Int.floor_add_intCast r n
  have he : Even (⌊r⌋ + n) ↔ Even ⌊r⌋ := by rw [Int.even_add]; simp [hn]
  have hd : r + n - ((⌊r⌋ + n : ℤ) : ℝ) = r - ⌊r⌋ := by push_cast; ring
  simp only [hf, he, hd]
  split_ifs <;> ring

/-- The kernel's offset for a magnitude: the step times an even integer near 2^23. -/
def offE (a : EReal) : EReal :=
  if a < ((2 : ℝ) : EReal) then ((4194304 : ℝ) : EReal) else if a < ((4 : ℝ) : EReal) then ((8388610 : ℝ) : EReal) else ((16777224 : ℝ) : EReal)

/-- The quantiser's step for a magnitude. -/
def ulpE (a : EReal) : EReal :=
  if a < ((2 : ℝ) : EReal) then ((1 / 2 : ℝ) : EReal) else if a < ((4 : ℝ) : EReal) then ((1 : ℝ) : EReal) else ((2 : ℝ) : EReal)

/-- The kernel's quantised magnitude: rounding to a multiple of the step beside a large offset. -/
def kq (a : EReal) : EReal := rd (Ideal.div (a + offE a) (ulpE a)) * ulpE a - offE a

/-- The reference's quantised magnitude: rounding binade by binade. -/
def rq (a : EReal) : EReal :=
  if a < ((2 : ℝ) : EReal) then Ideal.div (rd (((2 : ℝ) : EReal) * a)) ((2 : ℝ) : EReal)
  else if a < ((4 : ℝ) : EReal) then rd a else ((2 : ℝ) : EReal) * rd (Ideal.div a ((2 : ℝ) : EReal))

/-- The two quantised magnitudes are the same at every real. -/
theorem kq_eq_rq (r : ℝ) : kq (r : EReal) = rq (r : EReal) := by
  unfold kq rq offE ulpE
  have h2 : (2 : ℝ) ≠ 0 := by norm_num
  have key : ∀ (u : ℝ) (n : ℤ), u ≠ 0 → Even n →
      rd (Ideal.div ((r : EReal) + ((u * n : ℝ) : EReal)) (u : EReal)) * (u : EReal) - ((u * n : ℝ) : EReal)
        = ((Ideal.roundHalfEven (r / u) * u : ℝ) : EReal) := by
    intro u n hu hn
    rw [← EReal.coe_add, div_real _ _ hu, Ideal.liftRound_coe, ← EReal.coe_mul, ← EReal.coe_sub]
    have e : (r + u * n) / u = r / u + n := by field_simp
    rw [e, round_add_even _ _ hn]
    exact congrArg _ (by push_cast; ring)
  by_cases a2 : (r : EReal) < ((2 : ℝ) : EReal)
  · simp only [a2, if_true]
    have k := key (1 / 2) 8388608 (by norm_num) (by decide)
    have e : ((1 / 2 : ℝ) * ((8388608 : ℤ) : ℝ)) = 4194304 := by norm_num
    rw [e] at k
    rw [k, ← EReal.coe_mul, Ideal.liftRound_coe, div_real _ _ h2]
    have e2 : r / (1 / 2) = 2 * r := by ring
    rw [e2]; congr 1; ring
  · by_cases a4 : (r : EReal) < ((4 : ℝ) : EReal)
    · simp only [a2, a4, if_true, if_false]
      have k := key 1 8388610 (by norm_num) (by decide)
      have e : ((1 : ℝ) * ((8388610 : ℤ) : ℝ)) = 8388610 := by norm_num
      rw [e] at k
      rw [k, Ideal.liftRound_coe]
      simp
    · simp only [a2, a4, if_false]
      have k := key 2 8388612 (by norm_num) (by decide)
      have e : ((2 : ℝ) * ((8388612 : ℤ) : ℝ)) = 16777224 := by norm_num
      rw [e] at k
      rw [k, div_real _ _ h2, Ideal.liftRound_coe, ← EReal.coe_mul]
      congr 1; ring

/-- The kernel's value: sign and magnitude, capped after the magnitude is taken, times the block's scale. -/
def kE (w s : EReal) : EReal :=
  (if w < 0 then 0 - kq (min (max w (-w)) ((6 : ℝ) : EReal)) else kq (min (max w (-w)) ((6 : ℝ) : EReal))) * s

/-- The reference's clipped element. -/
def clipE (w : EReal) : EReal := min ((6 : ℝ) : EReal) (max ((-6 : ℝ) : EReal) w)

/-- The reference's value: clipped first, then sign and magnitude, times the block's scale. -/
def rE (w s : EReal) : EReal :=
  (if clipE w < 0 then 0 - rq (max (clipE w) (-clipE w)) else rq (max (clipE w) (-clipE w))) * s

theorem coe_max' (x y : ℝ) : max (x : EReal) (y : EReal) = ((max x y : ℝ) : EReal) :=
  (EReal.coe_strictMono.monotone.map_max).symm

theorem coe_min' (x y : ℝ) : min (x : EReal) (y : EReal) = ((min x y : ℝ) : EReal) :=
  (EReal.coe_strictMono.monotone.map_min).symm

/-- Clipping keeps the sign, and the clipped magnitude is the capped one, a real. -/
theorem clip_facts (w : EReal) : (clipE w < 0 ↔ w < 0) ∧
    ∃ r : ℝ, min (max w (-w)) ((6 : ℝ) : EReal) = r ∧ max (clipE w) (-clipE w) = r := by
  unfold clipE
  induction w with
  | bot =>
    refine ⟨?_, 6, ?_, ?_⟩
    · rw [max_bot_right, coe_min', show (0 : EReal) = ((0 : ℝ) : EReal) from rfl, EReal.coe_lt_coe_iff]
      norm_num
    · rw [EReal.neg_bot, max_top_right, min_top_left]
    · rw [max_bot_right, coe_min', ← EReal.coe_neg, coe_max']; norm_num
  | top =>
    refine ⟨?_, 6, ?_, ?_⟩
    · rw [max_top_right, min_top_right, show (0 : EReal) = ((0 : ℝ) : EReal) from rfl, EReal.coe_lt_coe_iff]
      norm_num
    · rw [EReal.neg_top, max_bot_right, min_top_left]
    · rw [max_top_right, min_top_right, ← EReal.coe_neg, coe_max']; norm_num
  | coe x =>
    rw [coe_max', coe_min', ← EReal.coe_neg, ← EReal.coe_neg, coe_max', coe_min', coe_max',
      show (0 : EReal) = ((0 : ℝ) : EReal) from rfl, EReal.coe_lt_coe_iff, EReal.coe_lt_coe_iff]
    refine ⟨?_, _, rfl, ?_⟩
    · rw [min_lt_iff, max_lt_iff]
      constructor
      · rintro (h | h)
        · norm_num at h
        · exact h.2
      · intro h; exact .inr ⟨by norm_num, h⟩
    · congr 1
      rcases le_total x 0 with h | h
      · have e1 : max x (-x) = -x := max_eq_right (by linarith)
        rw [e1]
        rcases le_total x (-6) with h6 | h6
        · rw [max_eq_left h6, min_eq_right (by linarith : (6 : ℝ) ≤ -x), min_eq_right (by norm_num : (-6 : ℝ) ≤ 6)]; norm_num
        · rw [max_eq_right h6, min_eq_left (by linarith : -x ≤ 6), min_eq_right (by linarith : x ≤ 6), e1]
      · have e1 : max x (-x) = x := max_eq_left (by linarith)
        rw [e1, max_eq_right (by linarith : (-6 : ℝ) ≤ x), min_comm x 6]
        have h0 : 0 ≤ min 6 x := le_min (by norm_num) h
        exact max_eq_left (by linarith)

/-- Kernel and reference quantise every extended real to the same value. -/
theorem kE_eq_rE (w s : EReal) : kE w s = rE w s := by
  obtain ⟨h1, r, h2, h3⟩ := clip_facts w
  unfold kE rE
  rw [h2, h3, kq_eq_rq]
  simp only [h1]

/-- A block's scale from its maximum and the global scale, clipped. -/
def sbE (a ds : EReal) : EReal := min (Ideal.ofBits .f32 0x43E00000#32) (max 0 (Ideal.div (Ideal.div a ((6 : ℝ) : EReal)) ds))

/-- The kernel multiplies by the divisor's reciprocal, 0 where the divisor is not positive. -/
def kVal (v a ds : EReal) : EReal :=
  kE (v * (if 0 < sbE a ds * ds then Ideal.div 1 (if 0 < sbE a ds * ds then sbE a ds * ds else 1) else 0)) (sbE a ds)

/-- The reference divides, and puts 0 where the divisor is not positive. -/
def rVal (v a ds : EReal) : EReal :=
  rE (if 0 < sbE a ds * ds then Ideal.div v (if 0 < sbE a ds * ds then sbE a ds * ds else 1) else 0) (sbE a ds)

/-- The two dequantised values agree on all extended reals. -/
theorem kVal_eq_rVal (v a ds : EReal) : kVal v a ds = rVal v a ds := by
  unfold kVal rVal
  rw [kE_eq_rE]
  by_cases h : 0 < sbE a ds * ds
  · simp only [h, if_true]
    unfold Ideal.div
    rw [if_neg h.ne', if_neg h.ne', one_mul]
  · simp only [h, if_false, mul_zero]

end Cert.WgradIdeal.Hand

end
-- ==== Proof.WgradIdeal.Had.lean ====
/-
  The butterfly of sixteen finite numbers is a sum against a row of the Hadamard matrix.
-/
module

public import proofs.«01_k».proof.Proof.WgradIdeal.Quant

@[expose] public section

noncomputable section

namespace Cert.WgradIdeal.Hand

open Idealize.ShloMosaic

/-- One butterfly stage on numbers: the pair's sum or its difference. -/
def bflyG {R : Type} [Add R] [Sub R] (d : Nat) (f : Nat → R) (i : Nat) : R :=
  bif Nat.beq ((i / d) % 2) 0 then f i + f (i + d) else f (i - d) - f i

/-- The four stages on numbers. -/
def hadG {R : Type} [Add R] [Sub R] (f : Nat → R) : Nat → R := bflyG 8 (bflyG 4 (bflyG 2 (bflyG 1 f)))

/-- A stage on reals seen as extended reals is the stage on the reals. -/
theorem bflyG_coe (d : Nat) (r : Nat → ℝ) : bflyG d (fun j => ((r j : ℝ) : EReal)) = fun j => ((bflyG d r j : ℝ) : EReal) := by
  funext i
  unfold bflyG
  cases Nat.beq ((i / d) % 2) 0
  · exact (EReal.coe_sub _ _).symm
  · exact (EReal.coe_add _ _).symm

theorem hadG_coe (r : Nat → ℝ) (k : Nat) : hadG (fun j => ((r j : ℝ) : EReal)) k = ((hadG r k : ℝ) : EReal) := by
  unfold hadG
  rw [bflyG_coe, bflyG_coe, bflyG_coe, bflyG_coe]

/-- Whether the numbers `k` and `j` below 16 share an odd number of binary ones. -/
def odd (k j : Nat) : Bool :=
  ((k.testBit 0 && j.testBit 0) ^^ (k.testBit 1 && j.testBit 1)) ^^ ((k.testBit 2 && j.testBit 2) ^^ (k.testBit 3 && j.testBit 3))

/-- The Hadamard matrix's entry: -1 when `k` and `j` share an odd number of binary ones, else 1. -/
def hs (k j : Nat) : ℝ := if odd k j then -1 else 1

/-- The four stages compute the sums against the rows of the Hadamard matrix. -/
theorem hadG_eq_sum (r : Nat → ℝ) (k : Fin 16) : hadG r k.val = ∑ j : Fin 16, hs k.val j.val * r j.val := by
  fin_cases k <;>
    · simp only [hadG, bflyG, hs, odd, Fin.sum_univ_succ, Fin.sum_univ_zero]
      simp [Nat.testBit, Nat.shiftRight_eq_div_pow, show Nat.beq 1 0 = false from rfl, show Nat.beq 0 0 = true from rfl]
      ring

/-- The butterfly on finite elements, each scaled by a finite sign over 4, is the sum the reference takes against the
    scaled Hadamard matrix. -/
theorem had_real (v s : Nat → EReal) (x g : Nat → ℝ) (hv : ∀ j, v j = ((x j : ℝ) : EReal)) (hg : ∀ j, s j = ((g j : ℝ) : EReal)) (k : Fin 16) :
    hadG (fun j => v j * (s j * ((1 / 4 : ℝ) : EReal))) k.val
      = ∑ j : Fin 16, v j.val * Ideal.div (((hs k.val j.val : ℝ) : EReal) * s j.val) ((4 : ℝ) : EReal) := by
  have e : (fun j => v j * (s j * ((1 / 4 : ℝ) : EReal))) = fun j => ((x j * (g j * (1 / 4)) : ℝ) : EReal) := by
    funext j; rw [hv, hg]; norm_cast
  rw [e, hadG_coe, hadG_eq_sum]
  have e2 : ∀ j : Fin 16, v j.val * Ideal.div (((hs k.val j.val : ℝ) : EReal) * s j.val) ((4 : ℝ) : EReal)
      = ((hs k.val j.val * (x j.val * (g j.val * (1 / 4))) : ℝ) : EReal) := by
    intro j
    rw [hv, hg, ← EReal.coe_mul, div_real _ _ (by norm_num), ← EReal.coe_mul]
    congr 1; ring
  rw [Finset.sum_congr rfl fun j _ => e2 j]
  exact map_sum (⟨⟨fun r : ℝ => (r : EReal), EReal.coe_zero⟩, fun a b => EReal.coe_add a b⟩ : ℝ →+ EReal) _ _

end Cert.WgradIdeal.Hand

end
-- ==== Proof.WgradIdeal.Elem.lean ====
/-
  What a tile of the weight-gradient kernel holds at one element, over the extended reals.
-/
module

public import proofs.«01_k».proof.Proof.WgradIdeal.Tile
public import proofs.«01_k».proof.Proof.WgradIdeal.Had
public import Idealize.ShloMosaic.Lib.Pipeline.Value

@[expose] public section

-- membership in a rectangle of production extents: the elaborator's structural look recurses once per coordinate
set_option maxRecDepth 16384

noncomputable section

namespace Cert.WgradIdeal.Hand

open Cert.WgradIdeal Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The quantiser at an element is the quantiser on numbers. -/
theorem qval_apply (w s : FVec Ideal S16x128 .f32) (i : S16x128.Idx) : qval w s i = kE (w i) (s i) := by
  have hq : ∀ w : FVec Ideal S16x128 .f32, qabs w i = kq (min (max (w i) (-(w i))) ((6 : ℝ) : EReal)) := by
    intro w
    have ha : qap w i = min (max (w i) (-(w i))) ((6 : ℝ) : EReal) := by
      show min (max (w i) (-(w i))) (Ideal.ofBits .f32 0x40C00000#32) = _
      rw [c_six]
    have h2 : qc2 w i = BitVec.ofBool (decide (qap w i < ((2 : ℝ) : EReal))) := by
      rw [← c_two]; rfl
    have h4 : qc4 w i = BitVec.ofBool (decide (qap w i < ((4 : ℝ) : EReal))) := by
      rw [← c_four]; rfl
    have hm : qmf w i = offE (qap w i) := by
      show Ideal.ofBits .f32 ((qexp w i + IntOp.shrsi .vector (qexp w i) 22#32) + 184549122#32) = _
      have he : qexp w i = Scalar.select (qc2 w i) 1065353216#32 (Scalar.select (qc4 w i) 1073741824#32 1082130432#32) := rfl
      rw [he, h2, h4]
      unfold offE
      by_cases a2 : qap w i < ((2 : ℝ) : EReal)
      · simp only [a2, if_true, decide_true]; rw [← c_off1]; show Ideal.ofBits .f32 (1065353216#32 + IntOp.shrsi .vector 1065353216#32 22#32 + 184549122#32) = _; exact congrArg (Ideal.ofBits .f32) (by decide +kernel)
      · by_cases a4 : qap w i < ((4 : ℝ) : EReal)
        · simp only [a2, a4, if_true, if_false, decide_true, decide_false]; rw [← c_off2]; exact congrArg (Ideal.ofBits .f32) (by decide +kernel)
        · simp only [a2, a4, if_false, decide_false]; rw [← c_off4]; exact congrArg (Ideal.ofBits .f32) (by decide +kernel)
    have hu : qulp w i = ulpE (qap w i) := by
      have he : qulp w i = Scalar.select (qc2 w i) (Ideal.ofBits .f32 0x3F000000#32) (Scalar.select (qc4 w i) (Ideal.ofBits .f32 0x3F800000#32) (Ideal.ofBits .f32 0x40000000#32)) := rfl
      rw [he, h2, h4, c_half, c_one, c_two]
      unfold ulpE
      by_cases a2 : qap w i < ((2 : ℝ) : EReal)
      · simp only [a2, if_true, decide_true]; rfl
      · by_cases a4 : qap w i < ((4 : ℝ) : EReal)
        · simp only [a2, a4, if_true, if_false, decide_true, decide_false]; rfl
        · simp only [a2, a4, if_false, decide_false]; rfl
    have hk : qabs w i = kq (qap w i) := by
      show Ideal.liftRound Ideal.roundHalfEven (Ideal.div (qap w i + qmf w i) (qulp w i)) * qulp w i - qmf w i = _
      rw [hm, hu]; rfl
    rw [hk, ha]
  have hz : Ideal.ofBits .f32 0x00000000#32 = 0 := Ideal.ofBits_zero_f32
  show Scalar.select (BitVec.ofBool (decide (w i < Ideal.ofBits .f32 0x00000000#32))) (Ideal.ofBits .f32 0x00000000#32 - qabs w i) (qabs w i) * s i = _
  rw [hq, hz]
  unfold kE
  by_cases h : w i < 0
  · simp only [h, if_true, decide_true]; rfl
  · simp only [h, if_false, decide_false]; rfl

/-- The butterfly at an element is the butterfly on numbers. -/
theorem bfly_apply (d : Nat) (v : Nat → FVec Ideal S16x128 .f32) (i : S16x128.Idx) :
    (fun j => bfly d v j i) = bflyG (R := EReal) d (fun j => v j i) := by
  funext j
  unfold bfly bflyG
  cases Nat.beq ((j / d) % 2) 0 <;> rfl

theorem had_apply (v : Nat → FVec Ideal S16x128 .f32) (i : S16x128.Idx) (k : Nat) :
    had v k i = hadG (R := EReal) (fun j => v j i) k := by
  have h := congrFun (bfly_apply 8 (bfly 4 (bfly 2 (bfly 1 v))) i) k
  rw [bfly_apply 4, bfly_apply 2, bfly_apply 1] at h
  exact h

/-- The block scale at an element. -/
theorem sbf_apply (ds : Ideal .f32) (a : Vec Ideal S32x512 .f32) (i : S32x512.Idx) : sbf ds a i = sbE (a i) ds := by
  show min (Ideal.ofBits .f32 0x43E00000#32) (max (Ideal.ofBits .f32 0x00000000#32) (Ideal.div (Ideal.div (a i) (Ideal.ofBits .f32 0x40C00000#32)) ds)) = _
  rw [show Ideal.ofBits .f32 0x00000000#32 = 0 from Ideal.ofBits_zero_f32, c_six]; rfl

/-- The reciprocal at an element. -/
theorem rcp_apply (ds : Ideal .f32) (a : Vec Ideal S32x512 .f32) (i : S32x512.Idx) :
    rcp ds a i = if 0 < sbE (a i) ds * ds then Ideal.div 1 (if 0 < sbE (a i) ds * ds then sbE (a i) ds * ds else 1) else 0 := by
  have hz : Ideal.ofBits .f32 0x00000000#32 = 0 := Ideal.ofBits_zero_f32
  have h1 : Ideal.ofBits .f32 0x3F800000#32 = (1 : EReal) := c_one
  have hp : dpos ds a i = BitVec.ofBool (decide (0 < sbE (a i) ds * ds)) := by
    show BitVec.ofBool (decide (Ideal.ofBits .f32 0x00000000#32 < sbf ds a i * ds)) = _
    rw [hz, sbf_apply]
  show Scalar.select (dpos ds a i) (Ideal.div (Ideal.ofBits .f32 0x3F800000#32) (Scalar.select (dpos ds a i) (sbf ds a i * ds) (Ideal.ofBits .f32 0x3F800000#32))) (Ideal.ofBits .f32 0x00000000#32) = _
  rw [hp, hz, h1, sbf_apply]
  by_cases h : 0 < sbE (a i) ds * ds
  · simp only [h, if_true, decide_true]; rfl
  · simp only [h, if_false, decide_false]; rfl

/-- A tile at an element: the butterfly of its sixteen leaves, quantised with the block scale of its group. -/
theorem tile_apply (s : Nat → Ideal .f32) (ld : Fin 2 → Fin 4 → Nat → Vec Ideal S16x2x128 .bf16) (ds : Ideal .f32) (a : Vec Ideal S32x512 .f32)
    (c : Fin 2) (l : Fin 4) (k : Nat) (i : S16x128.Idx) (j : S32x512.Idx) (h0 : (j 0).val = 16 * c.val + (i 0).val) (h1 : (j 1).val = 128 * l.val + (i 1).val) :
    tile s ld ds a c l k i = kVal (hadG (R := EReal) (fun n => leaf s (ld c l) n i) k) (a j) ds := by
  have hp : ∀ x : FVec Ideal S32x512 .f32, part c l x i = x j := by
    intro x
    unfold part
    show x _ = x j
    congr 1
    funext q
    apply Fin.ext
    match q with
    | ⟨0, _⟩ => exact h0.symm
    | ⟨1, _⟩ => exact h1.symm
  unfold tile
  rw [qval_apply]
  show kE (had (leaf s (ld c l)) k i * part c l (rcp ds a) i) (part c l (sbf ds a) i) = _
  rw [hp, hp, had_apply, sbf_apply, rcp_apply]
  rfl

/-- A leaf at an element: the row of the pair the number's parity names, times the sign. -/
theorem leaf_apply (s : Nat → Ideal .f32) (ld : Nat → Vec Ideal S16x2x128 .bf16) (n : Nat) (i : S16x128.Idx) :
    leaf s ld n i = (ld (n / 2) (ix3 (i 0) (Fin.ofNat 2 n) (i 1)) : EReal) * s n := by
  have key : ∀ (p : Fin 2) (x : Vec Ideal S16x2x128 .bf16),
      shapeCast S16x128 (rowsOfParity p S16x1x128 x bitcasts_S16x2x128_w16_S16x1x128_w32) shapeCasts_S16x1x128_S16x128 i = x (ix3 (i 0) p (i 1)) := by
    intro p x
    refine (shapeCast_apply _ _ i (ix3 (i 0) 0 (i 1)) ?_).trans ?_
    · rw [Shape.rowMajor_val_two, Shape.rowMajor_val_three]
      simp
    · unfold rowsOfParity
      congr 1
      funext q
      apply Fin.ext
      match q with
      | ⟨0, _⟩ => rfl
      | ⟨1, _⟩ => simp
      | ⟨2, _⟩ => rfl
  have hn : (bif Nat.beq (n % 2) 0 then 0 else 1 : Fin 2) = Fin.ofNat 2 n := by
    rcases Nat.mod_two_eq_zero_or_one n with h | h
    · rw [h]; apply Fin.ext; exact h.symm
    · rw [h]; apply Fin.ext; exact h.symm
  unfold leaf
  exact congrArg (fun z : EReal => z * s n) ((key _ _).trans (by rw [hn]))

end Cert.WgradIdeal.Hand

end
-- ==== Proof.WgradIdeal.Blocks.lean ====
/-
  What the windows of the weight-gradient kernel stage at a grid point, off the argument arrays.
-/
module

public import proofs.«01_k».proof.Proof.WgradIdeal.Runs
public import Idealize.ShloMosaic.Lib.Pipeline.ValueKit.Point

@[expose] public section

-- membership in a rectangle of production extents: the elaborator's structural look recurses once per coordinate
set_option maxRecDepth 16384

noncomputable section

namespace Cert.WgradIdeal.Hand

open Cert.WgradIdeal Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- Which block of its array each window stages at a grid point, decided over the grid. -/
theorem wix0 : ∀ t : Fin cfg0.N, win0_0.index t = ![0] :=
  (by decide +kernel : ∀ t : Fin grid0.N, win0_0.index t = ![0])
theorem wix1 : ∀ t : Fin cfg0.N, win0_1.index t = ![0] :=
  (by decide +kernel : ∀ t : Fin grid0.N, win0_1.index t = ![0])
theorem wix2 : ∀ t : Fin cfg0.N, win0_2.index t = ![0] :=
  (by decide +kernel : ∀ t : Fin grid0.N, win0_2.index t = ![0])
theorem wix3 : ∀ t : Fin cfg0.N, win0_3.index t = ![0, 0] :=
  (by decide +kernel : ∀ t : Fin grid0.N, win0_3.index t = ![0, 0])
theorem wix4 : ∀ t : Fin cfg0.N, t.val < 148 → win0_4.index t = ![t.val % 4, 4 * (t.val / 4)] :=
  (by decide +kernel : ∀ t : Fin grid0.N, t.val < 148 → win0_4.index t = ![t.val % 4, 4 * (t.val / 4)])
theorem wix5 : ∀ t : Fin cfg0.N, t.val < 148 → win0_5.index t = ![t.val % 4, 4 * (t.val / 4) + 1] :=
  (by decide +kernel : ∀ t : Fin grid0.N, t.val < 148 → win0_5.index t = ![t.val % 4, 4 * (t.val / 4) + 1])
theorem wix6 : ∀ t : Fin cfg0.N, t.val < 148 → win0_6.index t = ![t.val % 4, 4 * (t.val / 4) + 2] :=
  (by decide +kernel : ∀ t : Fin grid0.N, t.val < 148 → win0_6.index t = ![t.val % 4, 4 * (t.val / 4) + 2])
theorem wix7 : ∀ t : Fin cfg0.N, t.val < 148 → win0_7.index t = ![t.val % 4, 4 * (t.val / 4) + 3] :=
  (by decide +kernel : ∀ t : Fin grid0.N, t.val < 148 → win0_7.index t = ![t.val % 4, 4 * (t.val / 4) + 3])
theorem wix8 : ∀ t : Fin cfg0.N, t.val < 148 → win0_8.index t = ![t.val % 4, t.val / 4] :=
  (by decide +kernel : ∀ t : Fin grid0.N, t.val < 148 → win0_8.index t = ![t.val % 4, t.val / 4])
theorem wix9 : ∀ t : Fin cfg0.N, 4 ≤ t.val → win0_9.index t = ![t.val % 4, t.val / 4 - 1] :=
  (by decide +kernel : ∀ t : Fin grid0.N, 4 ≤ t.val → win0_9.index t = ![t.val % 4, t.val / 4 - 1])

/-- The windows of the signs, the two global scales and x's matrix stage the whole arrays. -/
theorem blk0 (c : Dev nD) (t : Fin cfg0.N) : iblk m c 0 t = m ((c : Thread nD τ).loc main_arg0) := by
  funext j; blk_ext [iblk, V, wix0 t]
theorem blk1 (c : Dev nD) (t : Fin cfg0.N) : iblk m c 1 t = m ((c : Thread nD τ).loc main_arg1) := by
  funext j; blk_ext [iblk, V, wix1 t]
theorem blk2 (c : Dev nD) (t : Fin cfg0.N) : iblk m c 2 t = m ((c : Thread nD τ).loc main_arg2) := by
  funext j; blk_ext [iblk, V, wix2 t]
theorem blk3 (c : Dev nD) (t : Fin cfg0.N) : iblk m c 3 t = m ((c : Thread nD τ).loc main_arg3) := by
  funext j; blk_ext [iblk, V, wix3 t]

/-- Element (`r`, `x`) of dy, the coordinates taken modulo the extents. -/
abbrev dyAt (c : Dev nD) (r x : Nat) : Elt F .bf16 := m ((c : Thread nD τ).loc main_arg4) (ValueIdx.ix2 (Fin.ofNat 2048 r) (Fin.ofNat 18944 x))

/-- Element (`r`, `x`) of the array of maxima. -/
abbrev amAt (c : Dev nD) (r x : Nat) : Elt F .f32 := m ((c : Thread nD τ).loc main_arg5) (ValueIdx.ix2 (Fin.ofNat 128 r) (Fin.ofNat 18944 x))

theorem blk4 (c : Dev nD) (t : Fin cfg0.N) (h : t.val < 148) (j : S512x128.Idx) :
    iblk m c 4 t j = dyAt m c (512 * (t.val % 4) + (j 0).val) (512 * (t.val / 4) + 128 * 0 + (j 1).val) := by
  have j0 : (j 0).val < 512 := (j 0).isLt
  have j1 : (j 1).val < 128 := (j 1).isLt
  blk_ext [iblk, V, wix4 t h]
  · show _ = _ % 2048; omega
  · show _ = _ % 18944; omega
theorem blk5 (c : Dev nD) (t : Fin cfg0.N) (h : t.val < 148) (j : S512x128.Idx) :
    iblk m c 5 t j = dyAt m c (512 * (t.val % 4) + (j 0).val) (512 * (t.val / 4) + 128 * 1 + (j 1).val) := by
  have j0 : (j 0).val < 512 := (j 0).isLt
  have j1 : (j 1).val < 128 := (j 1).isLt
  blk_ext [iblk, V, wix5 t h]
  · show _ = _ % 2048; omega
  · show _ = _ % 18944; omega
theorem blk6 (c : Dev nD) (t : Fin cfg0.N) (h : t.val < 148) (j : S512x128.Idx) :
    iblk m c 6 t j = dyAt m c (512 * (t.val % 4) + (j 0).val) (512 * (t.val / 4) + 128 * 2 + (j 1).val) := by
  have j0 : (j 0).val < 512 := (j 0).isLt
  have j1 : (j 1).val < 128 := (j 1).isLt
  blk_ext [iblk, V, wix6 t h]
  · show _ = _ % 2048; omega
  · show _ = _ % 18944; omega
theorem blk7 (c : Dev nD) (t : Fin cfg0.N) (h : t.val < 148) (j : S512x128.Idx) :
    iblk m c 7 t j = dyAt m c (512 * (t.val % 4) + (j 0).val) (512 * (t.val / 4) + 128 * 3 + (j 1).val) := by
  have j0 : (j 0).val < 512 := (j 0).isLt
  have j1 : (j 1).val < 128 := (j 1).isLt
  blk_ext [iblk, V, wix7 t h]
  · show _ = _ % 2048; omega
  · show _ = _ % 18944; omega
theorem blk8 (c : Dev nD) (t : Fin cfg0.N) (h : t.val < 148) (j : S32x512.Idx) :
    iblk m c 8 t j = amAt m c (32 * (t.val % 4) + (j 0).val) (512 * (t.val / 4) + (j 1).val) := by
  have j0 : (j 0).val < 32 := (j 0).isLt
  have j1 : (j 1).val < 512 := (j 1).isLt
  blk_ext [iblk, V, wix8 t h]
  · show _ = _ % 128; omega
  · show _ = _ % 18944; omega

end Cert.WgradIdeal.Hand

end
-- ==== Proof.WgradIdeal.Result.lean ====
/-
  The weight-gradient kernel's product array after the run, as sums over the arguments.
-/
module

public import proofs.«01_k».proof.Proof.WgradIdeal.Frame
public import proofs.«01_k».proof.Proof.WgradIdeal.Elem
public import proofs.«01_k».proof.Proof.WgradIdeal.Blocks

@[expose] public section

-- membership in a rectangle of production extents: the elaborator's structural look recurses once per coordinate
set_option maxRecDepth 16384

noncomputable section

namespace Cert.WgradIdeal.Hand

open Cert.WgradIdeal Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx (ix1 ix3)

variable (m : (ℓ : Loc nD τ sig) → Buf (Elt Ideal) ℓ)

/-- Sign `n` of the argument, the number taken modulo 16. -/
def sgAt (c : Dev nD) (n : Nat) : EReal := m ((c : Thread nD τ).loc main_arg0) (ValueIdx.ix1 (Fin.ofNat 16 n))

/-- Element (`o`, `r`) of x's matrix. -/
def xqAt (c : Dev nD) (o r : Nat) : EReal := m ((c : Thread nD τ).loc main_arg3) (ValueIdx.ix2 (Fin.ofNat 7168 o) (Fin.ofNat 2048 r))

/-- The two global scales. -/
def xsAt (c : Dev nD) : EReal := m ((c : Thread nD τ).loc main_arg1) (ValueIdx.ix1 (0 : Fin 1))
def dsAt (c : Dev nD) : EReal := m ((c : Thread nD τ).loc main_arg2) (ValueIdx.ix1 (0 : Fin 1))

/-- Row `r`, column `x` of the kernel's dequantised matrix: row 256 C + 16 k + g holds element `k` of the transform of
    token group 16 C + g. -/
def kerEl (c : Dev nD) (r x : Nat) : EReal :=
  kVal (hadG (R := EReal) (fun n => (dyAt m c (256 * (r / 256) + 16 * (r % 16) + n % 16) x : EReal) * (sgAt m c n * ((1 / 4 : ℝ) : EReal))) (r % 256 / 16))
    (amAt m c (16 * (r / 256) + r % 16) x) (dsAt m c)

/-- The pair loads of a grid point, off dy. -/
theorem rawTP_blk (c : Dev nD) (t : Fin cfg0.N) (h : t.val < 148) (C : Fin 2) (l : Fin 4) (j : Nat) (i : S16x2x128.Idx) :
    rawTP (iblk m c 4 t) (iblk m c 5 t) (iblk m c 6 t) (iblk m c 7 t) C l j i
      = dyAt m c (512 * (t.val % 4) + (256 * C.val + 16 * (i 0).val + 2 * (j % 8) + (i 1).val)) (512 * (t.val / 4) + 128 * l.val + (i 2).val) := by
  have i0 : (i 0).val < 16 := (i 0).isLt
  have i1 : (i 1).val < 2 := (i 1).isLt
  have i2 : (i 2).val < 128 := (i 2).isLt
  have hC := C.isLt
  have e1 : (256 * C.val + 16 * (i 0).val + 2 * (j % 8) + (i 1).val) % 512 = 256 * C.val + 16 * (i 0).val + 2 * (j % 8) + (i 1).val := by omega
  have e2 : (i 2).val % 128 = (i 2).val := by omega
  have key : ∀ (o : Nat) (X : Vec Ideal S512x128 .bf16), (∀ j : S512x128.Idx, X j = dyAt m c (512 * (t.val % 4) + (j 0).val) (512 * (t.val / 4) + 128 * o + (j 1).val)) →
      rawP X C j i = dyAt m c (512 * (t.val % 4) + (256 * C.val + 16 * (i 0).val + 2 * (j % 8) + (i 1).val)) (512 * (t.val / 4) + 128 * o + (i 2).val) := by
    intro o X hX
    unfold rawP
    rw [hX]
    show dyAt m c (512 * (t.val % 4) + _ % 512) (512 * (t.val / 4) + 128 * o + _ % 128) = _
    rw [e1, e2]
  match l with
  | 0 => exact key 0 _ (blk4 m c t h)
  | 1 => exact key 1 _ (blk5 m c t h)
  | 2 => exact key 2 _ (blk6 m c t h)
  | 3 => exact key 3 _ (blk7 m c t h)

/-- A tile of a grid point at an element, off the arguments. -/
theorem tiles_el (c : Dev nD) (q : Fin cfg0.N) (h : q.val < 148) (C : Fin 2) (l : Fin 4) (k : Nat) (i : S16x128.Idx) :
    tiles m c q C l k i = kVal (hadG (R := EReal) (fun n => (dyAt m c (512 * (q.val % 4) + 256 * C.val + 16 * (i 0).val + n % 16) (512 * (q.val / 4) + 128 * l.val + (i 1).val) : EReal)
        * (sgAt m c n * ((1 / 4 : ℝ) : EReal))) k)
      (amAt m c (32 * (q.val % 4) + 16 * C.val + (i 0).val) (512 * (q.val / 4) + 128 * l.val + (i 1).val)) (dsAt m c) := by
  have i0 : (i 0).val < 16 := (i 0).isLt
  have i1 : (i 1).val < 128 := (i 1).isLt
  have hC := C.isLt
  have hl := l.isLt
  unfold tiles
  refine (tile_apply _ _ _ _ C l k i (ValueIdx.ix2 (⟨16 * C.val + (i 0).val, by omega⟩ : Fin 32) (⟨128 * l.val + (i 1).val, by omega⟩ : Fin 512)) rfl rfl).trans ?_
  rw [blk8 m c q h, blk0, blk2]
  have ea : amAt m c (32 * (q.val % 4) + (16 * C.val + (i 0).val)) (512 * (q.val / 4) + (128 * l.val + (i 1).val))
      = amAt m c (32 * (q.val % 4) + 16 * C.val + (i 0).val) (512 * (q.val / 4) + 128 * l.val + (i 1).val) := by
    rw [Nat.add_assoc, Nat.add_assoc]
  refine (congrArg₂ (fun z w => kVal z w (dsAt m c)) ?_ ea)
  refine congrFun (congrArg (hadG (R := EReal)) (funext fun n => ?_)) _
  refine (leaf_apply _ _ n i).trans ?_
  rw [rawTP_blk m c q h]
  have es : (sgnP (m ((c : Thread nD τ).loc main_arg0)) n : EReal) = sgAt m c n * ((1 / 4 : ℝ) : EReal) := by
    rw [← c_quarter]; rfl
  rw [es]
  refine congrArg (fun z : EReal => z * _) ?_
  have e : 512 * (q.val % 4) + (256 * C.val + 16 * (i 0).val + 2 * (n / 2 % 8) + n % 2) = 512 * (q.val % 4) + 256 * C.val + 16 * (i 0).val + n % 16 := by omega
  exact congrArg (fun z => dyAt m c z (512 * (q.val / 4) + 128 * l.val + (i 1).val)) e

/-- The slab a product multiplies by, off the arguments. -/
theorem slab_el (c : Dev nD) (t : Fin cfg0.N) (ht : 4 ≤ t.val) (i : S1x2048x512.Idx) :
    slabT m c t i = kerEl m c (i 1).val (512 * (t.val / 4 - 1) + (i 2).val) := by
  have i1 : (i 1).val < 2048 := (i 1).isLt
  have i2 : (i 2).val < 512 := (i 2).isLt
  have hN : t.val < 152 := lt_of_lt_of_eq t.isLt (show cfg0.N = 152 from N_0)
  have hp : (pt (4 * (t.val / 4 - 1) + (i 1).val / 512)).val = 4 * (t.val / 4 - 1) + (i 1).val / 512 := by
    show _ % 152 = _; omega
  unfold slabT blk
  refine (tiles_el m c _ (by omega) _ _ _ _).trans ?_
  unfold kerEl
  have q4 : (pt (4 * (t.val / 4 - 1) + (i 1).val / 512)).val % 4 = (i 1).val / 512 := by omega
  have q5 : (pt (4 * (t.val / 4 - 1) + (i 1).val / 512)).val / 4 = t.val / 4 - 1 := by omega
  rw [q4, q5]
  have ex : 512 * (t.val / 4 - 1) + 128 * ((i 2).val / 128 % 4) + (i 2).val % 128 = 512 * (t.val / 4 - 1) + (i 2).val := by omega
  have ek : (i 1).val % 512 % 256 / 16 = (i 1).val % 256 / 16 := by omega
  have eg : 32 * ((i 1).val / 512) + 16 * ((i 1).val % 512 / 256 % 2) + (i 1).val % 512 % 16 = 16 * ((i 1).val / 256) + (i 1).val % 16 := by omega
  have ed : ∀ n, 512 * ((i 1).val / 512) + 256 * ((i 1).val % 512 / 256 % 2) + 16 * ((i 1).val % 512 % 16) + n % 16
      = 256 * ((i 1).val / 256) + 16 * ((i 1).val % 16) + n % 16 := by intro n; omega
  rw [ek]
  refine congrArg₂ (fun z w => kVal z w (dsAt m c)) (congrFun (congrArg (hadG (R := EReal)) (funext fun n => ?_)) _) ?_
  · exact congrArg (fun z : EReal => z * _) (congrArg₂ (dyAt m c) (ed n) ex)
  · exact congrArg₂ (amAt m c) eg ex

/-- The product's array, off the arguments. -/
def dwRes (c : Dev nD) : FVec Ideal S7168x18944 .f32 := fun i =>
  (∑ r : Fin 2048, xqAt m c (i 0).val r.val * kerEl m c r.val (i 1).val) * (xsAt m c * dsAt m c)

/-- A product block at an element. -/
theorem dwT_el (c : Dev nD) (t : Fin cfg0.N) (ht : 4 ≤ t.val) (y : S1792x512.Idx) :
    dwT m c t y = (∑ r : Fin 2048, xqAt m c (1792 * (t.val % 4) + (y 0).val) r.val
      * kerEl m c r.val (512 * (t.val / 4 - 1) + (y 1).val)) * (xsAt m c * dsAt m c) := by
  unfold dwT prod
  pointwise
  rw [blk1, blk2, blk3]
  refine congrArg (fun z : EReal => z * _) (Finset.sum_congr rfl fun x _ => ?_)
  rw [slab_el m c t ht]
  rfl

/-- After the run the product's array holds `dwRes`. -/
theorem dw_final (c : Dev nD) : (dats m 0 c).arrAt 9 cfg0.N = dwRes m c := by
  refine (dats m 0 c).arrAt_eq_of_covers 9 _ (by decide +kernel) fun t hf y => ?_
  have ht : 4 ≤ t.val := by
    by_contra h
    rw [flush9 t (by omega)] at hf
    exact Bool.false_ne_true hf
  rw [after0_9]
  have e0 : ((win0_9.blk t).view.emb y 0).val = 1792 * (t.val % 4) + (y 0).val := by
    blk_simp [wix9 t ht]
    omega
  have e1 : ((win0_9.blk t).view.emb y 1).val = 512 * (t.val / 4 - 1) + (y 1).val := by
    blk_simp [wix9 t ht]
    omega
  refine (dwT_el m c t ht y).trans ?_
  show _ = dwRes m c ((win0_9.blk t).view.emb y)
  unfold dwRes
  rw [e0, e1]

end Cert.WgradIdeal.Hand

end
-- ==== Proof.WgradIdeal.Scales.lean ====
/-
  The weight-gradient kernel's block scales after the run.
-/
module

public import proofs.«01_k».proof.Proof.WgradIdeal.Result

@[expose] public section

-- membership in a rectangle of production extents: the elaborator's structural look recurses once per coordinate
set_option maxRecDepth 16384

noncomputable section

namespace Cert.WgradIdeal.Hand

open Cert.WgradIdeal Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

/-- The block scales in closed form: maximum over 6 over the global scale, clipped. -/
def sbRes (c : Dev nD) : FVec Ideal S128x18944 .fp8e4m3 := fun i => sbE (amAt m c (i 0).val (i 1).val) (dsAt m c)

theorem wix8_all : ∀ t : Fin cfg0.N, win0_8.index t = ![t.val % 4, min (t.val / 4) 36] :=
  (by decide +kernel : ∀ t : Fin grid0.N, win0_8.index t = ![t.val % 4, min (t.val / 4) 36])
theorem wix11 : ∀ t : Fin cfg0.N, win0_11.index t = ![t.val % 4, min (t.val / 4) 36] :=
  (by decide +kernel : ∀ t : Fin grid0.N, win0_11.index t = ![t.val % 4, min (t.val / 4) 36])

/-- The block maxima that a step stages, the repeated last column step included. -/
theorem blk8_all (c : Dev nD) (t : Fin cfg0.N) (j : S32x512.Idx) :
    iblk m c 8 t j = amAt m c (32 * (t.val % 4) + (j 0).val) (512 * (min (t.val / 4) 36) + (j 1).val) := by
  have j0 : (j 0).val < 32 := (j 0).isLt
  have j1 : (j 1).val < 512 := (j 1).isLt
  blk_ext [iblk, V, wix8_all t]
  · show _ = _ % 128; omega
  · show _ = _ % 18944; omega

/-- One block scale. -/
theorem sb8_apply (ds : Ideal .f32) (a : Vec Ideal S32x512 .f32) (i : S32x512.Idx) : sb8 ds a i = sbE (a i) ds :=
  sbf_apply ds a i

/-- The scales of a step. -/
theorem sbT_el (c : Dev nD) (t : Fin cfg0.N) (y : S32x512.Idx) :
    sbT m c t y = sbE (amAt m c (32 * (t.val % 4) + (y 0).val) (512 * (min (t.val / 4) 36) + (y 1).val)) (dsAt m c) := by
  unfold sbT
  rw [sb8_apply, blk8_all, blk2]
  rfl

/-- After the run the scales' array holds `sbRes`. -/
theorem sb_final (c : Dev nD) : (dats m 0 c).arrAt 11 cfg0.N = sbRes m c := by
  refine (dats m 0 c).arrAt_eq_of_covers 11 _ (by decide +kernel) fun t hf y => ?_
  rw [after0_11]
  have e0 : ((win0_11.blk t).view.emb y 0).val = 32 * (t.val % 4) + (y 0).val := by
    blk_simp [wix11 t]
    omega
  have e1 : ((win0_11.blk t).view.emb y 1).val = 512 * (min (t.val / 4) 36) + (y 1).val := by
    blk_simp [wix11 t]
    omega
  refine (sbT_el m c t y).trans ?_
  show _ = sbRes m c ((win0_11.blk t).view.emb y)
  unfold sbRes
  rw [e0, e1]

end Cert.WgradIdeal.Hand

end
-- ==== Proof.WgradIdeal.ProductRun.lean ====
/-
  The weight-gradient kernel runs to the end with its product's and block scales' arrays computed.
-/
module

public import proofs.«01_k».proof.Proof.WgradIdeal.Scales

@[expose] public section

-- membership in a rectangle of production extents: the elaborator's structural look recurses once per coordinate
set_option maxRecDepth 16384

noncomputable section

namespace Cert.WgradIdeal.Hand

open Cert.WgradIdeal Cert.WgradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

/-- The kernel runs to the end with the product's array at `dwRes`, the scales' array at `sbRes` and the arguments unchanged. -/
theorem run_product (ρ : Dev nD → PrngReg) : θ_run defs (onTc (τ := τ) (main (F := Ideal))) ⟨m, fun _ => 0, ρ⟩ (fun r => ∀ c : Dev nD,
      r.2.mem ((c.tc : Thread nD τ).loc main_v0_0) = dwRes m c
      ∧ r.2.mem ((c.tc : Thread nD τ).loc main_v0_2) = sbRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨?_, ?_, h.2 c⟩) (θ_run_and (run_main m ρ) (unchanged m ρ))
  · have h9 := ((dats m 0 c).toRForget_arrAt_iff (fgt := forgets0) (w := 9) rfl _ _).mp ((h.1 c).1 9)
    exact h9.trans (dw_final m c)
  · have h11 := ((dats m 0 c).toRForget_arrAt_iff (fgt := forgets0) (w := 11) rfl _ _).mp ((h.1 c).1 11)
    exact h11.trans (sb_final m c)

end Cert.WgradIdeal.Hand

end
-- ==== Proof.ReferenceIdeal.Out.lean ====
/-
  The reference's product block, element by element, over its staged arrays.
-/
module

public import proofs.«01_k».proof.Proof.Gen.ReferenceIdeal.Value
public import proofs.«01_k».proof.Proof.WgradIdeal.Quant
public import Idealize.ShloMosaic.Lib.Pipeline.ValueKit.Point

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Cert.WgradIdeal.Hand (rVal rE sbE rq clipE c_six c_msix c_two c_four)

/-- The product block: x's codes against dy's, each requantised by `rVal` from its transformed element, its
    block maximum and the global scale, times the two global scales. -/
theorem outE (x0 : Vec Ideal S1 .f32) (x1 : Vec Ideal S1 .f32) (x2 : Vec Ideal S7168x2048 .bf16)
    (x3 : Vec Ideal S128x16x18944 .f32) (x4 : Vec Ideal S128x18944 .f32) (i : S7168x18944.Idx) :
    out0_5 x0 x1 x2 x3 x4 i = ((∑ τ : Fin 2048, (x2 (ValueIdx.ix2 (i 0) τ) : EReal)
      * rVal (x3 (ValueIdx.ix3 (Fin.ofNat 128 (τ.val / 16)) (Fin.ofNat 16 (τ.val % 16)) (i 1)))
          (x4 (ValueIdx.ix2 (Fin.ofNat 128 (τ.val / 16)) (i 1))) (x1 (ValueIdx.ix1 0)))
      * (x0 (ValueIdx.ix1 0) * x1 (ValueIdx.ix1 0)) : EReal) := by
  unfold out0_5
  frame_out
  pointwise [k0_pay1, k0_pay2, k0_pay3, k0_pay4, k0_pay5, k0_pay6]
  refine congrArg (fun z : EReal => z * _) (Finset.sum_congr rfl fun τ _ => ?_)
  have hg : (⟨τ.val / 16, by omega⟩ : Fin 128) = Fin.ofNat 128 (τ.val / 16) := Fin.ext (by simp; omega)
  have hk : (⟨τ.val % 16, by omega⟩ : Fin 16) = Fin.ofNat 16 (τ.val % 16) := Fin.ext (by simp)
  simp only [hg, hk]
  refine congrArg (fun z : EReal => _ * z) ?_
  simp only [c_two, c_four, c_six, c_msix]
  unfold rVal rE rq sbE clipE
  rfl

/-- The block scales: maximum over 6 over the global scale, clipped. -/
theorem outS (x0 : Vec Ideal S1 .f32) (x1 : Vec Ideal S1 .f32) (x2 : Vec Ideal S7168x2048 .bf16)
    (x3 : Vec Ideal S128x16x18944 .f32) (x4 : Vec Ideal S128x18944 .f32) (i : S128x18944.Idx) :
    out0_6 x0 x1 x2 x3 x4 i = sbE (x4 i) (x1 (ValueIdx.ix1 0)) := by
  unfold out0_6
  frame_out
  pointwise [k0_pay2]
  simp only [c_six]
  unfold sbE
  rfl

end Cert.ReferenceIdeal.Hand

end
-- ==== Proof.ReferenceIdeal.Product.lean ====
/-
  The reference's product array after its run, off its arguments.
-/
module

public import proofs.«01_k».proof.Proof.ReferenceIdeal.Out
public import proofs.«01_k».proof.Proof.WgradIdeal.Had

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat)
open Cert.WgradIdeal.Hand (rVal sbE hs odd c_four)

variable (m : (ℓ : Loc nD τ sig) → Buf (Elt Ideal) ℓ)

/-- Elements of the arguments, the coordinates taken modulo the extents: the signs, the two global scales, x's codes,
    dy and its block maxima. -/
def sgR (c : Dev nD) (n : Nat) : EReal := m ((c : Thread nD τ).loc main_arg0) (ValueIdx.ix1 (Fin.ofNat 16 n))
def xsR (c : Dev nD) : EReal := m ((c : Thread nD τ).loc main_arg1) (ValueIdx.ix1 0)
def dsR (c : Dev nD) : EReal := m ((c : Thread nD τ).loc main_arg2) (ValueIdx.ix1 0)
def xqR (c : Dev nD) (o r : Nat) : EReal := m ((c : Thread nD τ).loc main_arg3) (ValueIdx.ix2 (Fin.ofNat 7168 o) (Fin.ofNat 2048 r))
def dyR (c : Dev nD) (r x : Nat) : EReal := m ((c : Thread nD τ).loc main_arg4) (ValueIdx.ix2 (Fin.ofNat 2048 r) (Fin.ofNat 18944 x))
def amR (c : Dev nD) (r x : Nat) : EReal := m ((c : Thread nD τ).loc main_arg5) (ValueIdx.ix2 (Fin.ofNat 128 r) (Fin.ofNat 18944 x))

/-- The element of dy's transform that meets token position `r` of x, before requantising. -/
def vEl (c : Dev nD) (r x : Nat) : EReal :=
  ∑ n : Fin 16, dyR m c (16 * (r / 16) + n.val) x
    * Ideal.div (((hs (r % 16) n.val : ℝ) : EReal) * sgR m c n.val) ((4 : ℝ) : EReal)

theorem c_mone : Ideal.ofBits .f32 0xBF800000#32 = ((-1 : ℝ) : EReal) := by
  simp [Ideal.ofBits, Ideal.ieee, -EReal.coe_mul] <;> norm_num

/-- The parity of the common bits of two positions, as the program computes it, is `odd`. -/
theorem odd_bits : ∀ k j : Fin 16, (IntOp.cmpi CmpIPredicate.eq
    (IntOp.andi (IntOp.ctpop (IntOp.andi (BitVec.ofNat 32 k.val) (BitVec.ofNat 32 j.val))) 1#32) 1#32)
      = if odd k.val j.val then 1#1 else 0#1 := by
  decide +kernel

/-- The program's Hadamard sign is `hs`. -/
theorem sel_hs (k j : Fin 16) : (Scalar.select (IntOp.cmpi CmpIPredicate.eq
    (IntOp.andi (IntOp.ctpop (IntOp.andi (BitVec.ofNat 32 k.val) (BitVec.ofNat 32 j.val))) 1#32) 1#32)
      (Ideal.ofBits .f32 0xBF800000#32) (1 : EReal)) = ((hs k.val j.val : ℝ) : EReal) := by
  rw [odd_bits, c_mone]
  unfold hs
  cases odd k.val j.val <;> simp [Scalar.select]

/-- dy under the signed Hadamard transform, as the region of the reference finds it. -/
theorem v22 (c : Dev nD) (j : S128x16x18944.Idx) :
    V m c main_v22 j = vEl m c (16 * (j 0).val + (j 1).val) (j 2).val := by
  have h1 : (j 1).val < 16 := (j 1).isLt
  have h0 : (j 0).val < 128 := (j 0).isLt
  show @Eq EReal (StableHlo.after (List.flatten [hostOps0, hostOps0_1, hostOps0_2]) (fun b => m (c, b)) main_v22 j) _
  simp only [hostOps0, hostOps0_1, hostOps0_2, List.flatten_cons, List.flatten_nil, List.append_nil, List.cons_append, List.nil_append]
  after_results
  simp only [StableHlo.TRef.toBuf, StableHlo.TRef.ofBuf, id_eq, cast_eq, eq_mpr_eq_cast]
  pointwise
  unfold vEl
  refine Finset.sum_congr rfl fun n _ => ?_
  have hn := n.isLt
  have hr : (⟨(j 0).val * 16 + n.val, by omega⟩ : Fin 2048)
      = Fin.ofNat 2048 (16 * ((16 * (j 0).val + (j 1).val) / 16) + n.val) := Fin.ext (by simp; omega)
  have hx : (j 2 : Fin 18944) = Fin.ofNat 18944 (j 2).val := Fin.ext (Nat.mod_eq_of_lt (j 2).isLt).symm
  have hg : n = Fin.ofNat 16 n.val := Fin.ext (Nat.mod_eq_of_lt n.isLt).symm
  have hk : (16 * (j 0).val + (j 1).val) % 16 = (j 1).val := by omega
  have hsl := sel_hs (j 1) n
  unfold dyR sgR
  rw [c_four, hsl, hk, hr, ← hg, ← hx]
  rfl

/-- x's codes with the positions inside each block of 256 tokens exchanged. -/
theorem v25 (c : Dev nD) (j : S7168x2048.Idx) : V m c main_v25 j
    = xqR m c (j 0).val (256 * ((j 1).val / 256) + 16 * ((j 1).val % 16) + (j 1).val / 16 % 16) := by
  have h1 : (j 1).val < 2048 := (j 1).isLt
  show @Eq EReal (StableHlo.after (List.flatten [hostOps0, hostOps0_1, hostOps0_2]) (fun b => m (c, b)) main_v25 j) _
  simp only [hostOps0, hostOps0_1, hostOps0_2, List.flatten_cons, List.flatten_nil, List.append_nil, List.cons_append, List.nil_append]
  after_results
  pointwise
  have hr : (⟨(j 1).val / 256 * 256 + (j 1).val % 16 * 16 + (j 1).val / 16 % 16, by omega⟩ : Fin 2048)
      = Fin.ofNat 2048 (256 * ((j 1).val / 256) + 16 * ((j 1).val % 16) + (j 1).val / 16 % 16) :=
    Fin.ext (by simp; omega)
  have h0 : (j 0 : Fin 7168) = Fin.ofNat 7168 (j 0).val := Fin.ext (Nat.mod_eq_of_lt (j 0).isLt).symm
  unfold xqR
  rw [hr, ← h0]
  rfl

/-- Every window stages its whole array. -/
theorem wix : ∀ t : Fin cfg0.N, win0_0.index t = ![0] ∧ win0_1.index t = ![0] ∧ win0_2.index t = ![0, 0] ∧ win0_3.index t = ![0, 0, 0] ∧ win0_4.index t = ![0, 0] ∧ win0_5.index t = ![0, 0] :=
  (by decide +kernel : ∀ t : Fin grid0.N, win0_0.index t = ![0] ∧ win0_1.index t = ![0] ∧ win0_2.index t = ![0, 0] ∧ win0_3.index t = ![0, 0, 0] ∧ win0_4.index t = ![0, 0] ∧ win0_5.index t = ![0, 0])

theorem blk0 (c : Dev nD) (t : Fin cfg0.N) : iblk m c 0 t = V m c main_arg1 := by
  funext j; blk_ext [iblk, (wix t).1]
theorem blk1 (c : Dev nD) (t : Fin cfg0.N) : iblk m c 1 t = V m c main_arg2 := by
  funext j; blk_ext [iblk, (wix t).2.1]
theorem blk2 (c : Dev nD) (t : Fin cfg0.N) : iblk m c 2 t = V m c main_v25 := by
  funext j; blk_ext [iblk, (wix t).2.2.1]
theorem blk3 (c : Dev nD) (t : Fin cfg0.N) : iblk m c 3 t = V m c main_v22 := by
  funext j; blk_ext [iblk, (wix t).2.2.2.1]
theorem blk4 (c : Dev nD) (t : Fin cfg0.N) : iblk m c 4 t = V m c main_arg5 := by
  funext j; blk_ext [iblk, (wix t).2.2.2.2.1]

/-- The one block of the product is the whole array. -/
theorem arr_of (c : Dev nD) (X : FVec Ideal S7168x18944 .f32) (h : ∀ t : Fin cfg0.N, (dats m 0 c).after 5 t = X) :
    (dats m 0 c).arrAt 5 cfg0.N = X := by
  refine (dats m 0 c).arrAt_eq_of_covers 5 X (by decide +kernel) fun t hf y => ?_
  rw [h]
  have e0 : ((win0_5.blk t).view.emb y 0).val = (y 0).val := by
    blk_simp [(wix t).2.2.2.2.2]
  have e1 : ((win0_5.blk t).view.emb y 1).val = (y 1).val := by
    blk_simp [(wix t).2.2.2.2.2]
  show X y = X ((win0_5.blk t).view.emb y)
  refine congrArg X (funext fun k => Fin.ext ?_)
  match k with
  | ⟨0, _⟩ => exact e0.symm
  | ⟨1, _⟩ => exact e1.symm

/-- The reference's product array off its arguments. -/
theorem ref_final (c : Dev nD) (i : S7168x18944.Idx) : (dats m 0 c).arrAt 5 cfg0.N i
    = ((∑ r : Fin 2048, xqR m c (i 0).val (256 * (r.val / 256) + 16 * (r.val % 16) + r.val / 16 % 16)
        * rVal (vEl m c r.val (i 1).val) (amR m c (r.val / 16) (i 1).val) (dsR m c))
      * (xsR m c * dsR m c) : EReal) := by
  rw [arr_of m c _ fun t => by rw [after0_5, blk0, blk1, blk2, blk3, blk4], outE, V_main_arg1, V_main_arg2, V_main_arg5]
  refine congrArg (fun z : EReal => z * _) (Finset.sum_congr rfl fun r _ => ?_)
  have hr := r.isLt
  have hx : (i 1 : Fin 18944) = Fin.ofNat 18944 (i 1).val := Fin.ext (Nat.mod_eq_of_lt (i 1).isLt).symm
  have e : 16 * (Fin.ofNat 128 (r.val / 16)).val + (Fin.ofNat 16 (r.val % 16)).val = r.val := by
    simp; omega
  have v := v22 m c (ValueIdx.ix3 (Fin.ofNat 128 (r.val / 16)) (Fin.ofNat 16 (r.val % 16)) (i 1))
  have v' : V m c main_v22 (ValueIdx.ix3 (Fin.ofNat 128 (r.val / 16)) (Fin.ofNat 16 (r.val % 16)) (i 1))
      = vEl m c r.val (i 1).val := by
    refine v.trans ?_
    show vEl m c (16 * (Fin.ofNat 128 (r.val / 16)).val + (Fin.ofNat 16 (r.val % 16)).val) (i 1).val = _
    rw [e]
  rw [v25, v']
  unfold amR
  rw [← hx]
  rfl

theorem wix6 : ∀ t : Fin cfg0.N, win0_6.index t = ![0, 0] :=
  (by decide +kernel : ∀ t : Fin grid0.N, win0_6.index t = ![0, 0])

/-- The one block of the scales is the whole array. -/
theorem arr6_of (c : Dev nD) (X : FVec Ideal S128x18944 .fp8e4m3) (h : ∀ t : Fin cfg0.N, (dats m 0 c).after 6 t = X) :
    (dats m 0 c).arrAt 6 cfg0.N = X := by
  refine (dats m 0 c).arrAt_eq_of_covers 6 X (by decide +kernel) fun t hf y => ?_
  rw [h]
  have e0 : ((win0_6.blk t).view.emb y 0).val = (y 0).val := by
    blk_simp [wix6 t]
  have e1 : ((win0_6.blk t).view.emb y 1).val = (y 1).val := by
    blk_simp [wix6 t]
  show X y = X ((win0_6.blk t).view.emb y)
  refine congrArg X (funext fun k => Fin.ext ?_)
  match k with
  | ⟨0, _⟩ => exact e0.symm
  | ⟨1, _⟩ => exact e1.symm

/-- The reference's block scales off its arguments. -/
theorem ref_scales (c : Dev nD) (i : S128x18944.Idx) : (dats m 0 c).arrAt 6 cfg0.N i
    = sbE (amR m c (i 0).val (i 1).val) (dsR m c) := by
  rw [arr6_of m c _ fun t => by rw [after0_6, blk0, blk1, blk2, blk3, blk4], outS, V_main_arg2, V_main_arg5]
  have h0 : (i 0 : Fin 128) = Fin.ofNat 128 (i 0).val := Fin.ext (Nat.mod_eq_of_lt (i 0).isLt).symm
  have h1 : (i 1 : Fin 18944) = Fin.ofNat 18944 (i 1).val := Fin.ext (Nat.mod_eq_of_lt (i 1).isLt).symm
  have e : i = ValueIdx.ix2 (Fin.ofNat 128 (i 0).val) (Fin.ofNat 18944 (i 1).val) := by
    rw [← h0, ← h1]
    funext k
    match k with
    | ⟨0, _⟩ => rfl
    | ⟨1, _⟩ => rfl
  exact congrArg (fun j => sbE (m ((c : Thread nD τ).loc main_arg5) j) (dsR m c)) e

end Cert.ReferenceIdeal.Hand

end
-- ==== Proof.Equation.lean ====
/-
  The kernel's product array and the reference's are the same numbers: the kernel's rows in its own order of tokens,
  its transform as a butterfly, its quantiser on the reciprocal.
-/
module

public import proofs.«01_k».proof.Defs
public import proofs.«01_k».proof.Proof.WgradIdeal.ProductRun
public import proofs.«01_k».proof.Proof.ReferenceIdeal.Product
public import proofs.«01_k».proof.Proof.Gen.Pre_tame

@[expose] public section

set_option maxRecDepth 16384

noncomputable section

namespace Cert.Equation

open Idealize.ShloMosaic Idealize.ShloMosaic.TcCoe Idealize.SL.Sem
open Cert.WgradIdeal.Hand (rVal kVal kVal_eq_rVal hadG had_real hs dwRes sbRes kerEl sgAt xqAt xsAt dsAt dyAt amAt)
open Cert.ReferenceIdeal.Hand (vEl sgR xsR dsR xqR dyR amR ref_final ref_scales)

local instance : Cert.Pre_tame.Facts := Cert.Pre_tame.Gen.facts

/-- The bits of the precondition's bound are plus infinity. -/
theorem c_inf : Ideal.ofBits .f32 0x7F800000#32 = (⊤ : EReal) := by
  simp [Ideal.ofBits, Ideal.ieee]

/-- A number whose magnitude lies below plus infinity is real. -/
theorem real_of_abs_lt (a : EReal) (h : max a (-a) < ⊤) : ∃ x : ℝ, a = (x : EReal) := by
  induction a with
  | bot => simp at h
  | top => simp at h
  | coe x => exact ⟨x, rfl⟩

/-- Under the precondition every element of dy and every sign is real. -/
theorem tame_at (a0 : FVec Ideal Cert.Pre_tame.S16 .f32) (a1 a2 : FVec Ideal Cert.Pre_tame.S1 .f32)
    (a3 : FVec Ideal Cert.Pre_tame.S7168x2048 .bf16) (a4 : FVec Ideal Cert.Pre_tame.S2048x18944 .bf16)
    (a5 : FVec Ideal Cert.Pre_tame.S128x18944 .f32)
    (h : Cert.Pre_tame.fn (F := Ideal) a0 a1 a2 a3 a4 a5 = fun _ => 1#1) (r : Fin 2048) (b : Fin 1184) (k : Fin 16) :
    (∃ z : ℝ, (a4 (ValueIdx.ix2 r ⟨b.val * 16 + k.val, by omega⟩) : EReal) = (z : EReal))
      ∧ ∃ z : ℝ, (a0 (ValueIdx.ix1 k) : EReal) = (z : EReal) := by
  have h1 := congrFun h (ValueIdx.ix3 r b k)
  revert h1
  unfold Cert.Pre_tame.fn
  pointwise
  rw [c_inf]
  intro h1
  have bits : ∀ p q : Bool, IntOp.andi (BitVec.ofBool p) (BitVec.ofBool q) = 1#1 → p = true ∧ q = true := by decide
  obtain ⟨p, q⟩ := bits _ _ h1
  exact ⟨real_of_abs_lt _ (of_decide_eq_true p), real_of_abs_lt _ (of_decide_eq_true q)⟩

/-- Exchanging the two lower digits of a number written in base 16. -/
theorem digits (a b k : Nat) (hb : b < 16) (hk : k < 16) : (256 * a + 16 * k + b) / 256 = a ∧ (256 * a + 16 * k + b) % 16 = b
    ∧ (256 * a + 16 * k + b) / 16 % 16 = k ∧ (256 * a + 16 * k + b) % 256 / 16 = k := by omega

/-- The position that holds token row `r` in the other program's order. -/
def swap (r : Fin 2048) : Fin 2048 := ⟨256 * (r.val / 256) + 16 * (r.val % 16) + r.val / 16 % 16, by omega⟩

theorem swap_digits (r : Fin 2048) : (swap r).val / 256 = r.val / 256 ∧ (swap r).val % 16 = r.val / 16 % 16
    ∧ (swap r).val / 16 % 16 = r.val % 16 ∧ (swap r).val % 256 / 16 = r.val % 16 :=
  digits (r.val / 256) (r.val / 16 % 16) (r.val % 16) (by omega) (by omega)

theorem swap_swap : Function.Involutive swap := fun r => Fin.ext (by
  obtain ⟨h1, h2, h3, _⟩ := swap_digits r
  show 256 * ((swap r).val / 256) + 16 * ((swap r).val % 16) + (swap r).val / 16 % 16 = r.val
  rw [h1, h2, h3]
  omega)

variable (m : (ℓ : Loc Cert.WgradIdeal.nD Cert.WgradIdeal.τ Cert.WgradIdeal.sig) → Buf (Elt Ideal) ℓ)
variable (m' : (ℓ : Loc Cert.ReferenceIdeal.nD Cert.ReferenceIdeal.τ Cert.ReferenceIdeal.sig) → Buf (Elt Ideal) ℓ)

/-- Row `swap r` of the kernel's dequantised matrix is the reference's element at position `r`. -/
theorem el_eq (c : Dev Cert.WgradIdeal.nD) (hdy : ∀ r x, ∃ z : ℝ, (dyAt m c r x : EReal) = (z : EReal)) (hsg : ∀ n, ∃ z : ℝ, sgAt m c n = (z : EReal))
    (e0 : ∀ n, sgR m' c n = sgAt m c n) (e2 : dsR m' c = dsAt m c)
    (e4 : ∀ r x, dyR m' c r x = dyAt m c r x) (e5 : ∀ r x, amR m' c r x = amAt m c r x) (r : Fin 2048) (x : Nat) :
    kerEl m c (swap r).val x = rVal (vEl m' c r.val x) (amR m' c (r.val / 16) x) (dsR m' c) := by
  have hr := r.isLt
  obtain ⟨f, hf⟩ := Classical.axiomOfChoice (fun r => hdy r x)
  obtain ⟨g, hg⟩ := Classical.axiomOfChoice hsg
  obtain ⟨s1, s2, _, s3⟩ := swap_digits r
  have s4 : 16 * (r.val / 256) + r.val / 16 % 16 = r.val / 16 := by omega
  have s5 : 256 * (r.val / 256) + 16 * (r.val / 16 % 16) = 16 * (r.val / 16) := by omega
  unfold kerEl
  rw [kVal_eq_rVal, s1, s2, s3, s4, s5, e5, e2]
  have hh := had_real (fun n => (dyAt m c (16 * (r.val / 16) + n % 16) x : EReal)) (fun n => sgAt m c n)
    (fun n => f (16 * (r.val / 16) + n % 16)) g (fun n => hf _) hg ⟨r.val % 16, by omega⟩
  refine (congrArg (fun z => rVal z (amAt m c (r.val / 16) x) (dsAt m c)) hh).trans ?_
  refine congrArg (fun z => rVal z (amAt m c (r.val / 16) x) (dsAt m c)) ?_
  unfold vEl
  refine Finset.sum_congr rfl fun n _ => ?_
  rw [e4, e0]
  show dyAt m c (16 * (r.val / 16) + n.val % 16) x * _ = _
  rw [Nat.mod_eq_of_lt n.isLt]

/-- The two product arrays agree. -/
theorem product_eq (c : Dev Cert.WgradIdeal.nD) (hdy : ∀ r x, ∃ z : ℝ, (dyAt m c r x : EReal) = (z : EReal)) (hsg : ∀ n, ∃ z : ℝ, sgAt m c n = (z : EReal))
    (e0 : ∀ n, sgR m' c n = sgAt m c n) (e1 : xsR m' c = xsAt m c) (e2 : dsR m' c = dsAt m c) (e3 : ∀ o r, xqR m' c o r = xqAt m c o r)
    (e4 : ∀ r x, dyR m' c r x = dyAt m c r x) (e5 : ∀ r x, amR m' c r x = amAt m c r x) :
    (Cert.ReferenceIdeal.Gen.dats m' 0 c).arrAt 5 Cert.ReferenceIdeal.cfg0.N = dwRes m c := by
  funext i
  rw [ref_final]
  unfold dwRes
  rw [e1, ← e2]
  refine congrArg (fun z : EReal => z * _) ?_
  refine Eq.trans ?_ (Equiv.sum_comp (Function.Involutive.toPerm swap swap_swap)
    (fun r : Fin 2048 => xqAt m c (i 0).val r.val * kerEl m c r.val (i 1).val))
  refine Finset.sum_congr rfl fun r _ => ?_
  rw [e3]
  exact congrArg (fun z : EReal => xqAt m c (i 0).val (swap r).val * z) (el_eq m m' c hdy hsg e0 e2 e4 e5 r (i 1).val).symm

/-- The two block-scale arrays agree. -/
theorem scales_eq (c : Dev Cert.WgradIdeal.nD) (e2 : dsR m' c = dsAt m c) (e5 : ∀ r x, amR m' c r x = amAt m c r x) :
    (Cert.ReferenceIdeal.Gen.dats m' 0 c).arrAt 6 Cert.ReferenceIdeal.cfg0.N = sbRes m c := by
  funext i
  rw [ref_scales]
  unfold sbRes
  rw [e2, e5]

/-- Run from memories that agree on the arguments, the kernel and the reference leave the same product and block scales. -/
theorem algebraic : Cert.algebraic_WgradIdeal_ReferenceIdeal_pre_tame (hWgradIdeal := Cert.WgradIdeal.Gen.facts)
    (hReferenceIdeal := Cert.ReferenceIdeal.Gen.facts) (hPre_tame := Cert.Pre_tame.Gen.facts) := by
  intro m g m' g' hpre hagree
  refine ⟨fun c => dwRes m c, fun c => sbRes m c, Cert.WgradIdeal.Hand.run_product m g, ?_⟩
  refine (θ_run _ _ _).mono (fun r h c => ⟨(h c).1.trans ?_, (h c).2.1.trans ?_, (h c).2.2⟩) (Cert.ReferenceIdeal.Value.run_blocks m' g')
  all_goals obtain ⟨h0, h1, h2, h3, h4, h5⟩ := hagree c
  · refine product_eq m m' c (fun r x => ?_) (fun n => ?_) (fun n => congrFun h0 _) (congrFun h1 _) (congrFun h2 _)
      (fun o r => congrFun h3 _) (fun r x => congrFun h4 _) (fun r x => congrFun h5 _)
    · have t := (tame_at _ _ _ _ _ _ (hpre c) (Fin.ofNat 2048 r) ⟨(Fin.ofNat 18944 x).val / 16, by omega⟩ ⟨(Fin.ofNat 18944 x).val % 16, by omega⟩).1
      have e : (⟨(Fin.ofNat 18944 x).val / 16 * 16 + (Fin.ofNat 18944 x).val % 16, by omega⟩ : Fin 18944) = Fin.ofNat 18944 x :=
        Fin.ext (Nat.div_add_mod' _ 16)
      rw [e] at t
      exact t
    · exact (tame_at _ _ _ _ _ _ (hpre c) 0 0 (Fin.ofNat 16 n)).2
  · exact scales_eq m m' c (congrFun h2 _) (fun r x => congrFun h5 _)

end Cert.Equation

end
-- ==== Proof.lean ====
/-
The weight gradient's main call: the claims of the statement and their proofs.
-/
module

public import proofs.«01_k».proof.Defs
public import proofs.«01_k».proof.Proof.Wgrad.Frame
public import proofs.«01_k».proof.Proof.WgradIdeal.Frame
public import proofs.«01_k».proof.Proof.Gen.ReferenceIdeal.Frame
public import proofs.«01_k».proof.Proof.Gen.ReferenceIdeal.Value
public import proofs.«01_k».proof.Proof.Gen.Pre_tame
public import proofs.«01_k».proof.Proof.Equation
public import Idealize.ShloMosaic.Lib.Bf16Pair

@[expose] public section

namespace Cert.Proof

open Idealize.ShloMosaic

/-- The kernel as run and the kernel over values run to the end at rest with their arguments unchanged, and so does the
reference; the second is the first with the two-row packing read as values; and where dy and the signs are finite the
second's product is the reference's. -/
theorem claim : Cert.Claim :=
  ⟨Cert.Wgrad.Gen.facts, Cert.WgradIdeal.Gen.facts, Cert.ReferenceIdeal.Gen.facts, Cert.Pre_tame.Gen.facts,
    fun m ρ _ => Cert.Wgrad.Hand.frame m ρ,
    fun m ρ _ => Cert.WgradIdeal.Hand.frame m ρ,
    fun m ρ _ => Cert.WgradIdeal.Hand.frame m ρ,
    fun m ρ _ => Cert.ReferenceIdeal.Gen.frame m ρ,
    fun m ρ _ => Cert.ReferenceIdeal.Gen.frame m ρ,
    ⟨IdealRules.bf16_pair.statement Cert.WgradIdeal.S16x2x128 Cert.WgradIdeal.S16x1x128,
      IdealRules.bf16_pair.statement Cert.WgradIdeal.S32x128 Cert.WgradIdeal.S16x128⟩,
    Cert.Equation.algebraic⟩

end Cert.Proof
